-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3x100000 : Shape := ⟨3, ![2, 3, 100000]⟩
abbrev S2x3x2048 : Shape := ⟨3, ![2, 3, 2048]⟩
abbrev S2x100000 : Shape := ⟨2, ![2, 100000]⟩
abbrev S128x3 : Shape := ⟨2, ![128, 3]⟩
abbrev S128 : Shape := ⟨1, ![128]⟩
abbrev S128x128 : Shape := ⟨2, ![128, 128]⟩
abbrev S3x128 : Shape := ⟨2, ![3, 128]⟩
abbrev S3 : Shape := ⟨1, ![3]⟩
abbrev S_ : Shape := ⟨0, ![]⟩

class Facts : Prop where
  bcast_S_S2x3x100000 : S_.BroadcastsInDim S2x3x100000 (![] : Fin 0 → Fin S2x3x100000.rank)
  reducesTo_S2x3x100000_S_d0_1_2 : S2x3x100000.ReducesTo [0, 1, 2] S_
  h_S_ : 0 < S_.numel
  bcast_S_S2x3x2048 : S_.BroadcastsInDim S2x3x2048 (![] : Fin 0 → Fin S2x3x2048.rank)
  reducesTo_S2x3x2048_S_d0_1_2 : S2x3x2048.ReducesTo [0, 1, 2] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg19 : FVec F S128 .f32) (main_v84 : IVec S_ 1) : IVec S_ 1 :=
  let main_v85 : FVec F S128 .f32 := Host.absf main_arg19
  let main_cst_33 : FVec F S_ .f32 := constant S_ .f32 0x7F800000#32
  let main_v86 : FVec F S128 .f32 := broadcastInDim S128 ![] bcast_S_S128 main_cst_33
  let main_v87 : IVec S128 1 := cmpf .olt main_v85 main_v86
  let main_c_34 : IVec S_ 1 := constantI S_ 1 1#1
  let main_v88 : IVec S_ 1 := (fun x v => Host.reduce IntOp.andi x v reducesTo_S128_S_d0 h_S_) main_v87 main_c_34
  let main_v89 : IVec S_ 1 := andi main_v84 main_v88
  main_v89

def fn_part4 {F : FTy → Type} [FloatOps F] (main_arg16 : FVec F S128x128 .f32) (main_arg17 : FVec F S128 .f32) (main_arg18 : FVec F S128x128 .f32) (main_arg19 : FVec F S128 .f32) (main_v64 : IVec S_ 1) (main_v67 : IVec S128 1) : IVec S_ 1 :=
  let main_c_26 : IVec S_ 1 := constantI S_ 1 1#1
  let main_v68 : IVec S_ 1 := (fun x v => Host.reduce IntOp.andi x v reducesTo_S128_S_d0 h_S_) main_v67 main_c_26
  let main_v69 : IVec S_ 1 := andi main_v64 main_v68
  let main_v70 : FVec F S128x128 .f32 := Host.absf main_arg16
  let main_cst_27 : FVec F S_ .f32 := constant S_ .f32 0x7F800000#32
  let main_v71 : FVec F S128x128 .f32 := broadcastInDim S128x128 ![] bcast_S_S128x128 main_cst_27
  let main_v72 : IVec S128x128 1 := cmpf .olt main_v70 main_v71
  let main_c_28 : IVec S_ 1 := constantI S_ 1 1#1
  let main_v73 : IVec S_ 1 := (fun x v => Host.reduce IntOp.andi x v reducesTo_S128x128_S_d0_1 h_S_) main_v72 main_c_28
  let main_v74 : IVec S_ 1 := andi main_v69 main_v73
  let main_v75 : FVec F S128 .f32 := Host.absf main_arg17
  let main_cst_29 : FVec F S_ .f32 := constant S_ .f32 0x7F800000#32
  let main_v76 : FVec F S128 .f32 := broadcastInDim S128 ![] bcast_S_S128 main_cst_29
  let main_v77 : IVec S128 1 := cmpf .olt main_v75 main_v76
  let main_c_30 : IVec S_ 1 := constantI S_ 1 1#1
  let main_v78 : IVec S_ 1 := (fun x v => Host.reduce IntOp.andi x v reducesTo_S128_S_d0 h_S_) main_v77 main_c_30
  let main_v79 : IVec S_ 1 := andi main_v74 main_v78
  let main_v80 : FVec F S128x128 .f32 := Host.absf main_arg18
  let main_cst_31 : FVec F S_ .f32 := constant S_ .f32 0x7F800000#32
  let main_v81 : FVec F S128x128 .f32 := broadcastInDim S128x128 ![] bcast_S_S128x128 main_cst_31
  let main_v82 : IVec S128x128 1 := cmpf .olt main_v80 main_v81
  let main_c_32 : IVec S_ 1 := constantI S_ 1 1#1
  let main_v83 : IVec S_ 1 := (fun x v => Host.reduce IntOp.andi x v reducesTo_S128x128_S_d0_1 h_S_) main_v82 main_c_32
  let main_v84 : IVec S_ 1 := andi main_v79 main_v83
  fn_part5 (F := F) main_arg19 main_v84

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v49 : IVec S_ 1) (main_v50 : FVec F S128x3 .f32) : IVec S_ 1 :=
  let main_cst_19 : FVec F S_ .f32 := constant S_ .f32 0x7F800000#32
  let main_v51 : FVec F S128x3 .f32 := broadcastInDim S128x3 ![] bcast_S_S128x3 main_cst_19
  let main_v52 : IVec S128x3 1 := cmpf .olt main_v50 main_v51
  let main_c_20 : IVec S_ 1 := constantI S_ 1 1#1
  let main_v53 : IVec S_ 1 := (fun x v => Host.reduce IntOp.andi x v reducesTo_S128x3_S_d0_1 h_S_) main_v52 main_c_20
  let main_v54 : IVec S_ 1 := andi main_v49 main_v53
  let main_v55 : FVec F S128 .f32 := Host.absf main_arg13
  let main_cst_21 : FVec F S_ .f32 := constant S_ .f32 0x7F800000#32
  let main_v56 : FVec F S128 .f32 := broadcastInDim S128 ![] bcast_S_S128 main_cst_21
  let main_v57 : IVec S128 1 := cmpf .olt main_v55 main_v56
  let main_c_22 : IVec S_ 1 := constantI S_ 1 1#1
  let main_v58 : IVec S_ 1 := (fun x v => Host.reduce IntOp.andi x v reducesTo_S128_S_d0 h_S_) main_v57 main_c_22
  let main_v59 : IVec S_ 1 := andi main_v54 main_v58
  let main_v60 : FVec F S128x128 .f32 := Host.absf main_arg14
  let main_cst_23 : FVec F S_ .f32 := constant S_ .f32 0x7F800000#32
  let main_v61 : FVec F S128x128 .f32 := broadcastInDim S128x128 ![] bcast_S_S128x128 main_cst_23
  let main_v62 : IVec S128x128 1 := cmpf .olt main_v60 main_v61
  let main_c_24 : IVec S_ 1 := constantI S_ 1 1#1
  let main_v63 : IVec S_ 1 := (fun x v => Host.reduce IntOp.andi x v reducesTo_S128x128_S_d0_1 h_S_) main_v62 main_c_24
  let main_v64 : IVec S_ 1 := andi main_v59 main_v63
  let main_v65 : FVec F S128 .f32 := Host.absf main_arg15
  let main_cst_25 : FVec F S_ .f32 := constant S_ .f32 0x7F800000#32
  let main_v66 : FVec F S128 .f32 := broadcastInDim S128 ![] bcast_S_S128 main_cst_25
  let main_v67 : IVec S128 1 := cmpf .olt main_v65 main_v66
  fn_part4 (F := F) main_arg16 main_arg17 main_arg18 main_arg19 main_v64 main_v67

def fn_part2 {F : FTy → Type} [FloatOps F] (main_arg8 : FVec F S128 .f32) (main_arg9 : FVec F S128x128 .f32) (main_arg10 : FVec F S128x128 .f32) (main_arg12 : FVec F S128x3 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v29 : IVec S_ 1) (main_v32 : IVec S128x3 1) (main_c_12 : IVec S_ 1) : IVec S_ 1 :=
  let main_v33 : IVec S_ 1 := (fun x v => Host.reduce IntOp.andi x v reducesTo_S128x3_S_d0_1 h_S_) main_v32 main_c_12
  let main_v34 : IVec S_ 1 := andi main_v29 main_v33
  let main_v35 : FVec F S128 .f32 := Host.absf main_arg8
  let main_cst_13 : FVec F S_ .f32 := constant S_ .f32 0x7F800000#32
  let main_v36 : FVec F S128 .f32 := broadcastInDim S128 ![] bcast_S_S128 main_cst_13
  let main_v37 : IVec S128 1 := cmpf .olt main_v35 main_v36
  let main_c_14 : IVec S_ 1 := constantI S_ 1 1#1
  let main_v38 : IVec S_ 1 := (fun x v => Host.reduce IntOp.andi x v reducesTo_S128_S_d0 h_S_) main_v37 main_c_14
  let main_v39 : IVec S_ 1 := andi main_v34 main_v38
  let main_v40 : FVec F S128x128 .f32 := Host.absf main_arg9
  let main_cst_15 : FVec F S_ .f32 := constant S_ .f32 0x7F800000#32
  let main_v41 : FVec F S128x128 .f32 := broadcastInDim S128x128 ![] bcast_S_S128x128 main_cst_15
  let main_v42 : IVec S128x128 1 := cmpf .olt main_v40 main_v41
  let main_c_16 : IVec S_ 1 := constantI S_ 1 1#1
  let main_v43 : IVec S_ 1 := (fun x v => Host.reduce IntOp.andi x v reducesTo_S128x128_S_d0_1 h_S_) main_v42 main_c_16
  let main_v44 : IVec S_ 1 := andi main_v39 main_v43
  let main_v45 : FVec F S128x128 .f32 := Host.absf main_arg10
  let main_cst_17 : FVec F S_ .f32 := constant S_ .f32 0x7F800000#32
  let main_v46 : FVec F S128x128 .f32 := broadcastInDim S128x128 ![] bcast_S_S128x128 main_cst_17
  let main_v47 : IVec S128x128 1 := cmpf .olt main_v45 main_v46
  let main_c_18 : IVec S_ 1 := constantI S_ 1 1#1
  let main_v48 : IVec S_ 1 := (fun x v => Host.reduce IntOp.andi x v reducesTo_S128x128_S_d0_1 h_S_) main_v47 main_c_18
  let main_v49 : IVec S_ 1 := andi main_v44 main_v48
  let main_v50 : FVec F S128x3 .f32 := Host.absf main_arg12
  fn_part3 (F := F) main_arg13 main_arg14 main_arg15 main_arg16 main_arg17 main_arg18 main_arg19 main_v49 main_v50

def fn_part1 {F : FTy → Type} [FloatOps F] (main_arg5 : FVec F S128x3 .f32) (main_arg6 : FVec F S128 .f32) (main_arg7 : FVec F S128x3 .f32) (main_arg8 : FVec F S128 .f32) (main_arg9 : FVec F S128x128 .f32) (main_arg10 : FVec F S128x128 .f32) (main_arg12 : FVec F S128x3 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v14 : IVec S_ 1) (main_v15 : FVec F S2x3x2048 .f32) (main_cst_5 : FVec F S_ .f32) : IVec S_ 1 :=
  let main_v16 : FVec F S2x3x2048 .f32 := broadcastInDim S2x3x2048 ![] bcast_S_S2x3x2048 main_cst_5
  let main_v17 : IVec S2x3x2048 1 := cmpf .olt main_v15 main_v16
  let main_c_6 : IVec S_ 1 := constantI S_ 1 1#1
  let main_v18 : IVec S_ 1 := (fun x v => Host.reduce IntOp.andi x v reducesTo_S2x3x2048_S_d0_1_2 h_S_) main_v17 main_c_6
  let main_v19 : IVec S_ 1 := andi main_v14 main_v18
  let main_v20 : FVec F S128x3 .f32 := Host.absf main_arg5
  let main_cst_7 : FVec F S_ .f32 := constant S_ .f32 0x7F800000#32
  let main_v21 : FVec F S128x3 .f32 := broadcastInDim S128x3 ![] bcast_S_S128x3 main_cst_7
  let main_v22 : IVec S128x3 1 := cmpf .olt main_v20 main_v21
  let main_c_8 : IVec S_ 1 := constantI S_ 1 1#1
  let main_v23 : IVec S_ 1 := (fun x v => Host.reduce IntOp.andi x v reducesTo_S128x3_S_d0_1 h_S_) main_v22 main_c_8
  let main_v24 : IVec S_ 1 := andi main_v19 main_v23
  let main_v25 : FVec F S128 .f32 := Host.absf main_arg6
  let main_cst_9 : FVec F S_ .f32 := constant S_ .f32 0x7F800000#32
  let main_v26 : FVec F S128 .f32 := broadcastInDim S128 ![] bcast_S_S128 main_cst_9
  let main_v27 : IVec S128 1 := cmpf .olt main_v25 main_v26
  let main_c_10 : IVec S_ 1 := constantI S_ 1 1#1
  let main_v28 : IVec S_ 1 := (fun x v => Host.reduce IntOp.andi x v reducesTo_S128_S_d0 h_S_) main_v27 main_c_10
  let main_v29 : IVec S_ 1 := andi main_v24 main_v28
  let main_v30 : FVec F S128x3 .f32 := Host.absf main_arg7
  let main_cst_11 : FVec F S_ .f32 := constant S_ .f32 0x7F800000#32
  let main_v31 : FVec F S128x3 .f32 := broadcastInDim S128x3 ![] bcast_S_S128x3 main_cst_11
  let main_v32 : IVec S128x3 1 := cmpf .olt main_v30 main_v31
  let main_c_12 : IVec S_ 1 := constantI S_ 1 1#1
  fn_part2 (F := F) main_arg8 main_arg9 main_arg10 main_arg12 main_arg13 main_arg14 main_arg15 main_arg16 main_arg17 main_arg18 main_arg19 main_v29 main_v32 main_c_12

def fn {F : FTy → Type} [FloatOps F] (main_arg0 : FVec F S2x3x100000 .f32) (main_arg1 : FVec F S2x3x100000 .f32) (main_arg2 : FVec F S2x3x2048 .f32) (main_arg3 : FVec F S2x3x2048 .f32) (main_arg4 : IVec S2x100000 32) (main_arg5 : FVec F S128x3 .f32) (main_arg6 : FVec F S128 .f32) (main_arg7 : FVec F S128x3 .f32) (main_arg8 : FVec F S128 .f32) (main_arg9 : FVec F S128x128 .f32) (main_arg10 : FVec F S128x128 .f32) (main_arg11 : FVec F S128x128 .f32) (main_arg12 : FVec F S128x3 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S3x128 .f32) (main_arg21 : FVec F S3 .f32) : IVec S_ 1 :=
  let main_v0 : FVec F S2x3x100000 .f32 := Host.absf main_arg0
  let main_cst : FVec F S_ .f32 := constant S_ .f32 0x7F800000#32
  let main_v1 : FVec F S2x3x100000 .f32 := broadcastInDim S2x3x100000 ![] bcast_S_S2x3x100000 main_cst
  let main_v2 : IVec S2x3x100000 1 := cmpf .olt main_v0 main_v1
  let main_c : IVec S_ 1 := constantI S_ 1 1#1
  let main_v3 : IVec S_ 1 := (fun x v => Host.reduce IntOp.andi x v reducesTo_S2x3x100000_S_d0_1_2 h_S_) main_v2 main_c
  let main_c_0 : IVec S_ 1 := constantI S_ 1 1#1
  let main_v4 : IVec S_ 1 := andi main_c_0 main_v3
  let main_v5 : FVec F S2x3x100000 .f32 := Host.absf main_arg1
  let main_cst_1 : FVec F S_ .f32 := constant S_ .f32 0x7F800000#32
  let main_v6 : FVec F S2x3x100000 .f32 := broadcastInDim S2x3x100000 ![] bcast_S_S2x3x100000 main_cst_1
  let main_v7 : IVec S2x3x100000 1 := cmpf .olt main_v5 main_v6
  let main_c_2 : IVec S_ 1 := constantI S_ 1 1#1
  let main_v8 : IVec S_ 1 := (fun x v => Host.reduce IntOp.andi x v reducesTo_S2x3x100000_S_d0_1_2 h_S_) main_v7 main_c_2
  let main_v9 : IVec S_ 1 := andi main_v4 main_v8
  let main_v10 : FVec F S2x3x2048 .f32 := Host.absf main_arg2
  let main_cst_3 : FVec F S_ .f32 := constant S_ .f32 0x7F800000#32
  let main_v11 : FVec F S2x3x2048 .f32 := broadcastInDim S2x3x2048 ![] bcast_S_S2x3x2048 main_cst_3
  let main_v12 : IVec S2x3x2048 1 := cmpf .olt main_v10 main_v11
  let main_c_4 : IVec S_ 1 := constantI S_ 1 1#1
  let main_v13 : IVec S_ 1 := (fun x v => Host.reduce IntOp.andi x v reducesTo_S2x3x2048_S_d0_1_2 h_S_) main_v12 main_c_4
  let main_v14 : IVec S_ 1 := andi main_v9 main_v13
  let main_v15 : FVec F S2x3x2048 .f32 := Host.absf main_arg3
  let main_cst_5 : FVec F S_ .f32 := constant S_ .f32 0x7F800000#32
  fn_part1 (F := F) main_arg5 main_arg6 main_arg7 main_arg8 main_arg9 main_arg10 main_arg12 main_arg13 main_arg14 main_arg15 main_arg16 main_arg17 main_arg18 main_arg19 main_v14 main_v15 main_cst_5
-- ==== Kernel.lean ====
abbrev S2x3x100000 : Shape := ⟨3, ![2, 3, 100000]⟩
abbrev S2x3x2048 : Shape := ⟨3, ![2, 3, 2048]⟩
abbrev S2x100000 : Shape := ⟨2, ![2, 100000]⟩
abbrev S128x3 : Shape := ⟨2, ![128, 3]⟩
abbrev S128 : Shape := ⟨1, ![128]⟩
abbrev S128x128 : Shape := ⟨2, ![128, 128]⟩
abbrev S3x128 : Shape := ⟨2, ![3, 128]⟩
abbrev S3 : Shape := ⟨1, ![3]⟩
abbrev S_ : Shape := ⟨0, ![]⟩
abbrev S2x3x100352 : Shape := ⟨3, ![2, 3, 100352]⟩
abbrev S2x100352 : Shape := ⟨2, ![2, 100352]⟩
abbrev S2x1x100352 : Shape := ⟨3, ![2, 1, 100352]⟩
abbrev S128x1 : Shape := ⟨2, ![128, 1]⟩
abbrev S3x1 : Shape := ⟨2, ![3, 1]⟩
abbrev S1x3x2048 : Shape := ⟨3, ![1, 3, 2048]⟩
abbrev S1x1x2048 : Shape := ⟨3, ![1, 1, 2048]⟩
abbrev S128x2048 : Shape := ⟨2, ![128, 2048]⟩
abbrev S3x2048 : Shape := ⟨2, ![3, 2048]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 47
  | .vmem => 32
  | .smem => 0
  | _ => 0

abbrev bufTy : (tb : Table) → Fin (tcTables nBuf tb) → BufTy
  | .hbm, ⟨0, _⟩ => ⟨S2x3x100000, .f32⟩
  | .hbm, ⟨1, _⟩ => ⟨S2x3x100000, .f32⟩
  | .hbm, ⟨2, _⟩ => ⟨S2x3x2048, .f32⟩
  | .hbm, ⟨3, _⟩ => ⟨S2x3x2048, .f32⟩
  | .hbm, ⟨4, _⟩ => ⟨S2x100000, .i32⟩
  | .hbm, ⟨5, _⟩ => ⟨S128x3, .f32⟩
  | .hbm, ⟨6, _⟩ => ⟨S128, .f32⟩
  | .hbm, ⟨7, _⟩ => ⟨S128x3, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x3, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S3x128, .f32⟩
  | .hbm, ⟨21, _⟩ => ⟨S3, .f32⟩
  | .hbm, ⟨22, _⟩ => ⟨S_, .i32⟩
  | .hbm, ⟨23, _⟩ => ⟨S_, .f32⟩
  | .hbm, ⟨24, _⟩ => ⟨S2x3x100352, .f32⟩
  | .hbm, ⟨25, _⟩ => ⟨S_, .i32⟩
  | .hbm, ⟨26, _⟩ => ⟨S_, .f32⟩
  | .hbm, ⟨27, _⟩ => ⟨S2x3x100352, .f32⟩
  | .hbm, ⟨28, _⟩ => ⟨S_, .i32⟩
  | .hbm, ⟨29, _⟩ => ⟨S_, .i32⟩
  | .hbm, ⟨30, _⟩ => ⟨S2x100352, .i32⟩
  | .hbm, ⟨31, _⟩ => ⟨S2x1x100352, .i32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S3x1, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S3x1, .f32⟩
  | .hbm, ⟨46, _⟩ => ⟨S2x3x2048, .f32⟩
  | .local _ .vmem, ⟨0, _⟩ => ⟨S1x3x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x3x2048, .f32⟩
  | .local _ .vmem, ⟨5, _⟩ => ⟨S1x3x2048, .f32⟩
  | .local _ .vmem, ⟨6, _⟩ => ⟨S1x3x2048, .f32⟩
  | .local _ .vmem, ⟨7, _⟩ => ⟨S1x3x2048, .f32⟩
  | .local _ .vmem, ⟨8, _⟩ => ⟨S1x1x2048, .i32⟩
  | .local _ .vmem, ⟨9, _⟩ => ⟨S1x1x2048, .i32⟩
  | .local _ .vmem, ⟨10, _⟩ => ⟨S128x3, .f32⟩
  | .local _ .vmem, ⟨11, _⟩ => ⟨S128x1, .f32⟩
  | .local _ .vmem, ⟨12, _⟩ => ⟨S128x3, .f32⟩
  | .local _ .vmem, ⟨13, _⟩ => ⟨S128x1, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x3, .f32⟩
  | .local _ .vmem, ⟨18, _⟩ => ⟨S128x1, .f32⟩
  | .local _ .vmem, ⟨19, _⟩ => ⟨S128x128, .f32⟩
  | .local _ .vmem, ⟨20, _⟩ => ⟨S128x1, .f32⟩
  | .local _ .vmem, ⟨21, _⟩ => ⟨S128x128, .f32⟩
  | .local _ .vmem, ⟨22, _⟩ => ⟨S128x1, .f32⟩
  | .local _ .vmem, ⟨23, _⟩ => ⟨S128x128, .f32⟩
  | .local _ .vmem, ⟨24, _⟩ => ⟨S128x1, .f32⟩
  | .local _ .vmem, ⟨25, _⟩ => ⟨S3x128, .f32⟩
  | .local _ .vmem, ⟨26, _⟩ => ⟨S3x1, .f32⟩
  | .local _ .vmem, ⟨27, _⟩ => ⟨S1x3x2048, .f32⟩
  | .local _ .vmem, ⟨28, _⟩ => ⟨S1x3x2048, .f32⟩
  | .local _ .vmem, ⟨29, _⟩ => ⟨S128x2048, .f32⟩
  | .local _ .vmem, ⟨30, _⟩ => ⟨S128x2048, .f32⟩
  | .local _ .vmem, ⟨31, _⟩ => ⟨S128x2048, .f32⟩
  | _, _ => ⟨S2x3x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_c_0 : Ref sig .tc := ⟨.hbm, 25, rfl⟩
abbrev main_call1_v0 : Ref sig .tc := ⟨.hbm, 26, rfl⟩
abbrev main_v1 : Ref sig .tc := ⟨.hbm, 27, rfl⟩
abbrev main_c_1 : Ref sig .tc := ⟨.hbm, 28, rfl⟩
abbrev main_call2_v0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg22_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v78 : BitVec 1 := Scalar.cmpi .eq arg1 c48_i32
  let v79 : BitVec 32 := Scalar.extui v78
  let c0_i32_59 : BitVec 32 := 0#32
  let v80 : BitVec 1 := Scalar.cmpi .ne v79 c0_i32_59
  v80

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S3x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S3x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x3x2048 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S2x3x100000 : Shape := ⟨3, ![2, 3, 100000]⟩
abbrev S2x3x2048 : Shape := ⟨3, ![2, 3, 2048]⟩
abbrev S2x100000 : Shape := ⟨2, ![2, 100000]⟩
abbrev S128x3 : Shape := ⟨2, ![128, 3]⟩
abbrev S128 : Shape := ⟨1, ![128]⟩
abbrev S128x128 : Shape := ⟨2, ![128, 128]⟩
abbrev S3x128 : Shape := ⟨2, ![3, 128]⟩
abbrev S3 : Shape := ⟨1, ![3]⟩
abbrev S2x100000x128 : Shape := ⟨3, ![2, 100000, 128]⟩
abbrev S2x128x100000 : Shape := ⟨3, ![2, 128, 100000]⟩
abbrev S1x128x1 : Shape := ⟨3, ![1, 128, 1]⟩
abbrev S2x2048x128 : Shape := ⟨3, ![2, 2048, 128]⟩
abbrev S2x128x2048 : Shape := ⟨3, ![2, 128, 2048]⟩
abbrev S2x1x100000 : Shape := ⟨3, ![2, 1, 100000]⟩
abbrev S_ : Shape := ⟨0, ![]⟩
abbrev S2x128x100000x1 : Shape := ⟨4, ![2, 128, 100000, 1]⟩
abbrev S1 : Shape := ⟨1, ![1]⟩
abbrev S1x1x1x1 : Shape := ⟨4, ![1, 1, 1, 1]⟩
abbrev S2x3x100000x1 : Shape := ⟨4, ![2, 3, 100000, 1]⟩
abbrev S2x1x1x100000 : Shape := ⟨4, ![2, 1, 1, 100000]⟩
abbrev S2048 : Shape := ⟨1, ![2048]⟩
abbrev S1x1x2048x1 : Shape := ⟨4, ![1, 1, 2048, 1]⟩
abbrev S2x1x2048x100000 : Shape := ⟨4, ![2, 1, 2048, 100000]⟩
abbrev S2x128x1x100000 : Shape := ⟨4, ![2, 128, 1, 100000]⟩
abbrev S2x128x2048x100000 : Shape := ⟨4, ![2, 128, 2048, 100000]⟩
abbrev S1x128x100000 : Shape := ⟨3, ![1, 128, 100000]⟩
abbrev S128x100000 : Shape := ⟨2, ![128, 100000]⟩
abbrev S1x100000 : Shape := ⟨2, ![1, 100000]⟩
abbrev S100000 : Shape := ⟨1, ![100000]⟩
abbrev S100000x128 : Shape := ⟨2, ![100000, 128]⟩
abbrev S2048x128 : Shape := ⟨2, ![2048, 128]⟩
abbrev S100000x1 : Shape := ⟨2, ![100000, 1]⟩
abbrev S128x2048 : Shape := ⟨2, ![128, 2048]⟩
abbrev S1x128x2048 : Shape := ⟨3, ![1, 128, 2048]⟩
abbrev S2x2048x3 : Shape := ⟨3, ![2, 2048, 3]⟩
abbrev S1x3x1 : Shape := ⟨3, ![1, 3, 1]⟩

abbrev nBuf : Space → Nat
  | .hbm => 239
  | .vmem => 0
  | .smem => 0
  | _ => 0

abbrev hbmTy0_0 (i : Nat) : BufTy := match i % 128 with
  | 0 => ⟨S2x3x100000, .f32⟩
  | 1 => ⟨S2x3x100000, .f32⟩
  | 2 => ⟨S2x3x2048, .f32⟩
  | 3 => ⟨S2x3x2048, .f32⟩
  | 4 => ⟨S2x100000, .i32⟩
  | 5 => ⟨S128x3, .f32⟩
  | 6 => ⟨S128, .f32⟩
  | 7 => ⟨S128x3, .f32⟩
  | 8 => ⟨S128, .f32⟩
  | 9 => ⟨S128x128, .f32⟩
  | 10 => ⟨S128x128, .f32⟩
  | 11 => ⟨S128x128, .f32⟩
  | 12 => ⟨S128x3, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S3x128, .f32⟩
  | 21 => ⟨S3, .f32⟩
  | 22 => ⟨S2x100000x128, .f32⟩
  | 23 => ⟨S2x128x100000, .f32⟩
  | 24 => ⟨S1x128x1, .f32⟩
  | 25 => ⟨S2x128x100000, .f32⟩
  | 26 => ⟨S2x128x100000, .f32⟩
  | 27 => ⟨S2x2048x128, .f32⟩
  | 28 => ⟨S2x128x2048, .f32⟩
  | 29 => ⟨S1x128x1, .f32⟩
  | 30 => ⟨S2x128x2048, .f32⟩
  | 31 => ⟨S2x128x2048, .f32⟩
  | 32 => ⟨S2x2048x128, .f32⟩
  | 33 => ⟨S2x128x2048, .f32⟩
  | 34 => ⟨S2x100000x128, .f32⟩
  | 35 => ⟨S2x128x100000, .f32⟩
  | 36 => ⟨S2x100000x128, .f32⟩
  | 37 => ⟨S2x128x100000, .f32⟩
  | 38 => ⟨S2x1x100000, .i32⟩
  | 39 => ⟨S2x128x100000, .i32⟩
  | 40 => ⟨S_, .i32⟩
  | 41 => ⟨S2x128x100000, .i32⟩
  | 42 => ⟨S2x128x100000, .i1⟩
  | 43 => ⟨S_, .i32⟩
  | 44 => ⟨S2x128x100000, .i32⟩
  | 45 => ⟨S2x128x100000, .i32⟩
  | 46 => ⟨S2x128x100000, .i32⟩
  | 47 => ⟨S2x128x100000x1, .i32⟩
  | 48 => ⟨S1, .i32⟩
  | 49 => ⟨S_, .i32⟩
  | 50 => ⟨S2x128x100000x1, .i32⟩
  | 51 => ⟨S2x128x100000x1, .i1⟩
  | 52 => ⟨S1x1x1x1, .i32⟩
  | 53 => ⟨S2x128x100000x1, .i32⟩
  | 54 => ⟨S2x128x100000x1, .i1⟩
  | 55 => ⟨S2x128x100000x1, .i1⟩
  | 56 => ⟨S_, .i1⟩
  | 57 => ⟨S2x128x100000, .i1⟩
  | 58 => ⟨S2x128x100000, .f32⟩
  | 59 => ⟨S_, .f32⟩
  | 60 => ⟨S2x128x100000, .f32⟩
  | 61 => ⟨S2x128x100000, .f32⟩
  | 62 => ⟨S2x1x100000, .i32⟩
  | 63 => ⟨S2x3x100000, .i32⟩
  | 64 => ⟨S_, .i32⟩
  | 65 => ⟨S2x3x100000, .i32⟩
  | 66 => ⟨S2x3x100000, .i1⟩
  | 67 => ⟨S_, .i32⟩
  | 68 => ⟨S2x3x100000, .i32⟩
  | 69 => ⟨S2x3x100000, .i32⟩
  | 70 => ⟨S2x3x100000, .i32⟩
  | 71 => ⟨S2x3x100000x1, .i32⟩
  | 72 => ⟨S1, .i32⟩
  | 73 => ⟨S_, .i32⟩
  | 74 => ⟨S2x3x100000x1, .i32⟩
  | 75 => ⟨S2x3x100000x1, .i1⟩
  | 76 => ⟨S1x1x1x1, .i32⟩
  | 77 => ⟨S2x3x100000x1, .i32⟩
  | 78 => ⟨S2x3x100000x1, .i1⟩
  | 79 => ⟨S2x3x100000x1, .i1⟩
  | 80 => ⟨S_, .i1⟩
  | 81 => ⟨S2x3x100000, .i1⟩
  | 82 => ⟨S2x3x100000, .f32⟩
  | 83 => ⟨S_, .f32⟩
  | 84 => ⟨S2x3x100000, .f32⟩
  | 85 => ⟨S2x3x100000, .f32⟩
  | 86 => ⟨S2x3x100000, .f32⟩
  | 87 => ⟨S2x100000x128, .f32⟩
  | 88 => ⟨S2x128x100000, .f32⟩
  | 89 => ⟨S1x128x1, .f32⟩
  | 90 => ⟨S2x128x100000, .f32⟩
  | 91 => ⟨S2x128x100000, .f32⟩
  | 92 => ⟨S_, .f32⟩
  | 93 => ⟨S2x128x100000, .f32⟩
  | 94 => ⟨S2x128x100000, .f32⟩
  | 95 => ⟨S2x100000x128, .f32⟩
  | 96 => ⟨S2x128x100000, .f32⟩
  | 97 => ⟨S1x128x1, .f32⟩
  | 98 => ⟨S2x128x100000, .f32⟩
  | 99 => ⟨S2x128x100000, .f32⟩
  | 100 => ⟨S2x128x100000, .f32⟩
  | 101 => ⟨S2x128x100000, .f32⟩
  | 102 => ⟨S2x100000x128, .f32⟩
  | 103 => ⟨S2x128x100000, .f32⟩
  | 104 => ⟨S1x128x1, .f32⟩
  | 105 => ⟨S2x128x100000, .f32⟩
  | 106 => ⟨S2x128x100000, .f32⟩
  | 107 => ⟨S_, .f32⟩
  | 108 => ⟨S2x128x100000, .f32⟩
  | 109 => ⟨S2x128x100000, .f32⟩
  | 110 => ⟨S2x100000x128, .f32⟩
  | 111 => ⟨S2x128x100000, .f32⟩
  | 112 => ⟨S1x128x1, .f32⟩
  | 113 => ⟨S2x128x100000, .f32⟩
  | 114 => ⟨S2x128x100000, .f32⟩
  | 115 => ⟨S_, .f32⟩
  | 116 => ⟨S_, .f32⟩
  | 117 => ⟨S2x128x100000, .f32⟩
  | 118 => ⟨S2x128x100000, .f32⟩
  | 119 => ⟨S2x1x1x100000, .i32⟩
  | 120 => ⟨S2048, .i32⟩
  | 121 => ⟨S1x1x2048x1, .i32⟩
  | 122 => ⟨S2x1x2048x100000, .i32⟩
  | 123 => ⟨S2x1x2048x100000, .i32⟩
  | 124 => ⟨S2x1x2048x100000, .i1⟩
  | 125 => ⟨S2x128x1x100000, .f32⟩
  | 126 => ⟨S_, .f32⟩
  | 127 => ⟨S_, .f32⟩
  | _ => ⟨S2x3x100000, .f32⟩

abbrev hbmTy0_1 (i : Nat) : BufTy := match i % 128 with
  | 0 => ⟨S2x128x2048x100000, .i1⟩
  | 1 => ⟨S2x128x2048x100000, .f32⟩
  | 2 => ⟨S2x128x2048x100000, .f32⟩
  | 3 => ⟨S2x128x2048x100000, .f32⟩
  | 4 => ⟨S_, .f32⟩
  | 5 => ⟨S2x128x2048, .f32⟩
  | 6 => ⟨S2x1x100000, .i32⟩
  | 7 => ⟨S2x128x100000, .i32⟩
  | 8 => ⟨S_, .i32⟩
  | 9 => ⟨S2x128x100000, .i32⟩
  | 10 => ⟨S2x128x100000, .i1⟩
  | 11 => ⟨S_, .i32⟩
  | 12 => ⟨S2x128x100000, .i32⟩
  | 13 => ⟨S2x128x100000, .i32⟩
  | 14 => ⟨S2x128x100000, .i32⟩
  | 15 => ⟨S2x128x100000x1, .i32⟩
  | 16 => ⟨S1, .i32⟩
  | 17 => ⟨S_, .i32⟩
  | 18 => ⟨S2x128x100000x1, .i32⟩
  | 19 => ⟨S2x128x100000x1, .i1⟩
  | 20 => ⟨S1x1x1x1, .i32⟩
  | 21 => ⟨S2x128x100000x1, .i32⟩
  | 22 => ⟨S2x128x100000x1, .i1⟩
  | 23 => ⟨S2x128x100000x1, .i1⟩
  | 24 => ⟨S_, .i1⟩
  | 25 => ⟨S2x128x100000, .i1⟩
  | 26 => ⟨S2x128x100000, .f32⟩
  | 27 => ⟨S_, .f32⟩
  | 28 => ⟨S2x128x100000, .f32⟩
  | 29 => ⟨S2x128x100000, .f32⟩
  | 30 => ⟨S2x128x100000, .f32⟩
  | 31 => ⟨S2x128x100000, .f32⟩
  | 32 => ⟨S1x128x100000, .f32⟩
  | 33 => ⟨S128x100000, .f32⟩
  | 34 => ⟨S1x100000, .i32⟩
  | 35 => ⟨S100000, .i32⟩
  | 36 => ⟨S100000x128, .f32⟩
  | 37 => ⟨S_, .f32⟩
  | 38 => ⟨S2048x128, .f32⟩
  | 39 => ⟨S100000x1, .i32⟩
  | 40 => ⟨S2048x128, .f32⟩
  | 41 => ⟨S128x2048, .f32⟩
  | 42 => ⟨S1x128x100000, .f32⟩
  | 43 => ⟨S128x100000, .f32⟩
  | 44 => ⟨S1x100000, .i32⟩
  | 45 => ⟨S100000, .i32⟩
  | 46 => ⟨S100000x128, .f32⟩
  | 47 => ⟨S_, .f32⟩
  | 48 => ⟨S2048x128, .f32⟩
  | 49 => ⟨S100000x1, .i32⟩
  | 50 => ⟨S2048x128, .f32⟩
  | 51 => ⟨S128x2048, .f32⟩
  | 52 => ⟨S1x128x2048, .f32⟩
  | 53 => ⟨S1x128x2048, .f32⟩
  | 54 => ⟨S2x128x2048, .f32⟩
  | 55 => ⟨S2x1x100000, .i32⟩
  | 56 => ⟨S2x128x100000, .i32⟩
  | 57 => ⟨S_, .i32⟩
  | 58 => ⟨S2x128x100000, .i32⟩
  | 59 => ⟨S2x128x100000, .i1⟩
  | 60 => ⟨S_, .i32⟩
  | 61 => ⟨S2x128x100000, .i32⟩
  | 62 => ⟨S2x128x100000, .i32⟩
  | 63 => ⟨S2x128x100000, .i32⟩
  | 64 => ⟨S2x128x100000x1, .i32⟩
  | 65 => ⟨S1, .i32⟩
  | 66 => ⟨S_, .i32⟩
  | 67 => ⟨S2x128x100000x1, .i32⟩
  | 68 => ⟨S2x128x100000x1, .i1⟩
  | 69 => ⟨S1x1x1x1, .i32⟩
  | 70 => ⟨S2x128x100000x1, .i32⟩
  | 71 => ⟨S2x128x100000x1, .i1⟩
  | 72 => ⟨S2x128x100000x1, .i1⟩
  | 73 => ⟨S_, .i1⟩
  | 74 => ⟨S2x128x100000, .i1⟩
  | 75 => ⟨S2x128x100000, .f32⟩
  | 76 => ⟨S_, .f32⟩
  | 77 => ⟨S2x128x100000, .f32⟩
  | 78 => ⟨S2x128x100000, .f32⟩
  | 79 => ⟨S2x128x100000, .f32⟩
  | 80 => ⟨S2x128x100000, .f32⟩
  | 81 => ⟨S2x128x100000, .f32⟩
  | 82 => ⟨S1x128x100000, .f32⟩
  | 83 => ⟨S128x100000, .f32⟩
  | 84 => ⟨S1x100000, .i32⟩
  | 85 => ⟨S100000, .i32⟩
  | 86 => ⟨S100000x128, .f32⟩
  | 87 => ⟨S_, .f32⟩
  | 88 => ⟨S2048x128, .f32⟩
  | 89 => ⟨S100000x1, .i32⟩
  | 90 => ⟨S2048x128, .f32⟩
  | 91 => ⟨S128x2048, .f32⟩
  | 92 => ⟨S1x128x100000, .f32⟩
  | 93 => ⟨S128x100000, .f32⟩
  | 94 => ⟨S1x100000, .i32⟩
  | 95 => ⟨S100000, .i32⟩
  | 96 => ⟨S100000x128, .f32⟩
  | 97 => ⟨S_, .f32⟩
  | 98 => ⟨S2048x128, .f32⟩
  | 99 => ⟨S100000x1, .i32⟩
  | 100 => ⟨S2048x128, .f32⟩
  | 101 => ⟨S128x2048, .f32⟩
  | 102 => ⟨S1x128x2048, .f32⟩
  | 103 => ⟨S1x128x2048, .f32⟩
  | 104 => ⟨S2x128x2048, .f32⟩
  | 105 => ⟨S2x2048x3, .f32⟩
  | 106 => ⟨S2x3x2048, .f32⟩
  | 107 => ⟨S1x3x1, .f32⟩
  | 108 => ⟨S2x3x2048, .f32⟩
  | 109 => ⟨S2x3x2048, .f32⟩
  | 110 => ⟨S2x3x2048, .f32⟩
  | _ => ⟨S2x3x100000, .f32⟩

abbrev hbmTy (i : Nat) : BufTy := match i / 128 with
  | 0 => hbmTy0_0 i
  | 1 => hbmTy0_1 i
  | _ => ⟨S2x3x100000, .f32⟩

abbrev bufTy : (tb : Table) → Fin (tcTables nBuf tb) → BufTy
  | .hbm, ⟨i, _⟩ => hbmTy i
  | _, _ => ⟨S2x3x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_cst : Ref sig .tc := ⟨.hbm, 59, rfl⟩
abbrev main_call0_v14 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_call2_cst : Ref sig .tc := ⟨.hbm, 92, rfl⟩
abbrev main_call2_v0 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call3_cst : Ref sig .tc := ⟨.hbm, 107, rfl⟩
abbrev main_call3_v0 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_cst : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_cst_0 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_v57 : Ref sig .tc := ⟨.hbm, 131, rfl⟩
abbrev main_cst_1 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_cst : Ref sig .tc := ⟨.hbm, 155, rfl⟩
abbrev main_call5_v14 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_cst_2 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_cst_3 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_call6_c : Ref sig .tc := ⟨.hbm, 185, rfl⟩
abbrev main_call6_v0 : Ref sig .tc := ⟨.hbm, 186, rfl⟩
abbrev main_call6_v1 : Ref sig .tc := ⟨.hbm, 187, rfl⟩
abbrev main_call6_c_0 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_call6_v5 : Ref sig .tc := ⟨.hbm, 192, rfl⟩
abbrev main_call6_c_1 : Ref sig .tc := ⟨.hbm, 193, rfl⟩
abbrev main_call6_c_2 : Ref sig .tc := ⟨.hbm, 194, rfl⟩
abbrev main_call6_v6 : Ref sig .tc := ⟨.hbm, 195, rfl⟩
abbrev main_call6_v7 : Ref sig .tc := ⟨.hbm, 196, rfl⟩
abbrev main_call6_v8 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_c_3 : Ref sig .tc := ⟨.hbm, 201, rfl⟩
abbrev main_call6_v12 : Ref sig .tc := ⟨.hbm, 202, rfl⟩
abbrev main_call6_v13 : Ref sig .tc := ⟨.hbm, 203, rfl⟩
abbrev main_call6_cst : Ref sig .tc := ⟨.hbm, 204, rfl⟩
abbrev main_call6_v14 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩
abbrev main_v94 : Ref sig .tc := ⟨.hbm, 213, rfl⟩
abbrev main_v95 : Ref sig .tc := ⟨.hbm, 214, rfl⟩
abbrev main_cst_4 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_cst_5 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩

abbrev nD : Nat := 1
abbrev τ : Topo := Topo.v7x

variable {F : FTy → Type} [FloatOps F]
-- ==== Proof.Mathematics.lean ====
/-
  The mathematics of the layer over the extended reals: what the layer computes for one point from the weights, the
  point's coordinates and features and its node's query and coordinates; that the attention logits are real numbers where
  the data are; and that a softmax-weighted segment sum is the quotient of two segment sums.
-/
module

public import Idealize.ShloMosaic.Lib.Pointwise
public import Mathlib.Analysis.SpecialFunctions.Exp

@[expose] public section

noncomputable section

open Idealize.ShloMosaic

namespace Cert.Layer

/-- A convolution of width one at a point: the weights times the point's vector, plus the bias. -/
def lin {n k : Nat} (W : Fin n → Fin k → EReal) (b : Fin n → EReal) (x : Fin k → EReal) : Fin n → EReal :=
  fun i => (∑ j, W i j * x j) + b i

/-- A convolution of width one without a bias. -/
def mul {n k : Nat} (W : Fin n → Fin k → EReal) (x : Fin k → EReal) : Fin n → EReal :=
  fun i => ∑ j, W i j * x j

/-- The positive part of each component. -/
def relu {n : Nat} (x : Fin n → EReal) : Fin n → EReal := fun i => max (x i) 0

/-- The weights and biases of the layer. -/
structure Weights where
  W10 : Fin 128 → Fin 3 → EReal
  b10 : Fin 128 → EReal
  W11 : Fin 128 → Fin 3 → EReal
  b11 : Fin 128 → EReal
  Wq : Fin 128 → Fin 128 → EReal
  Wk : Fin 128 → Fin 128 → EReal
  Wv : Fin 128 → Fin 128 → EReal
  Wd1 : Fin 128 → Fin 3 → EReal
  bd1 : Fin 128 → EReal
  Wd2 : Fin 128 → Fin 128 → EReal
  bd2 : Fin 128 → EReal
  Wg1 : Fin 128 → Fin 128 → EReal
  bg1 : Fin 128 → EReal
  Wg2 : Fin 128 → Fin 128 → EReal
  bg2 : Fin 128 → EReal
  W2 : Fin 3 → Fin 128 → EReal
  b2 : Fin 3 → EReal

namespace Weights

variable (w : Weights)

/-- The query of a node with features `nf`. -/
def query (nf : Fin 3 → EReal) : Fin 128 → EReal := mul w.Wq (lin w.W11 w.b11 nf)
/-- The key of a point with features `xf`. -/
def key (xf : Fin 3 → EReal) : Fin 128 → EReal := mul w.Wk (lin w.W10 w.b10 xf)
/-- The value of a point with features `xf`. -/
def value (xf : Fin 3 → EReal) : Fin 128 → EReal := mul w.Wv (lin w.W10 w.b10 xf)
/-- The position encoding of a point at `x` about the center `ctr`. -/
def pos (x ctr : Fin 3 → EReal) : Fin 128 → EReal :=
  lin w.Wd2 w.bd2 (relu (lin w.Wd1 w.bd1 fun j => x j - ctr j))
/-- The attention logits of a point, before they are divided by the square root of the width. -/
def raw (q : Fin 128 → EReal) (x xf ctr : Fin 3 → EReal) : Fin 128 → EReal :=
  lin w.Wg2 w.bg2 (relu (lin w.Wg1 w.bg1 fun j => q j - w.key xf j + w.pos x ctr j))
/-- The attention logits of a point: divided by the square root of the width. -/
def logit (q : Fin 128 → EReal) (x xf ctr : Fin 3 → EReal) : Fin 128 → EReal :=
  fun i => w.raw q x xf ctr i * (((Real.sqrt 128)⁻¹ : ℝ) : EReal)
/-- What is summed with the attention weights: the value plus the position encoding. -/
def val (x xf ctr : Fin 3 → EReal) : Fin 128 → EReal := fun i => w.value xf i + w.pos x ctr i

end Weights

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨r, rfl⟩ := hx; obtain ⟨s, rfl⟩ := hy; exact ⟨r + s, by rw [EReal.coe_add]⟩
theorem IsReal.sub {x y : EReal} (hx : IsReal x) (hy : IsReal y) : IsReal (x - y) := by
  obtain ⟨r, rfl⟩ := hx; obtain ⟨s, rfl⟩ := hy; exact ⟨r - s, by rw [EReal.coe_sub]⟩
theorem IsReal.mul {x y : EReal} (hx : IsReal x) (hy : IsReal y) : IsReal (x * y) := by
  obtain ⟨r, rfl⟩ := hx; obtain ⟨s, rfl⟩ := hy; exact ⟨r * s, by rw [EReal.coe_mul]⟩
theorem IsReal.max {x y : EReal} (hx : IsReal x) (hy : IsReal y) : IsReal (max x y) := by
  rcases max_choice x y with h | h <;> rw [h] <;> assumption
theorem IsReal.sum {ι : Type} (s : Finset ι) {f : ι → EReal} (h : ∀ i ∈ s, IsReal (f i)) : IsReal (∑ i ∈ s, f i) :=
  Finset.sum_induction f IsReal (fun _ _ => IsReal.add) IsReal.zero h

theorem IsReal.mulVec {n k : Nat} {W : Fin n → Fin k → EReal} {x : Fin k → EReal}
    (hW : ∀ i j, IsReal (W i j)) (hx : ∀ j, IsReal (x j)) (i : Fin n) : IsReal (Layer.mul W x i) :=
  IsReal.sum _ fun j _ => (hW i j).mul (hx j)
theorem IsReal.lin {n k : Nat} {W : Fin n → Fin k → EReal} {b : Fin n → EReal} {x : Fin k → EReal}
    (hW : ∀ i j, IsReal (W i j)) (hb : ∀ i, IsReal (b i)) (hx : ∀ j, IsReal (x j)) (i : Fin n) : IsReal (Layer.lin W b x i) :=
  (IsReal.sum _ fun j _ => (hW i j).mul (hx j)).add (hb i)
theorem IsReal.relu {n : Nat} {x : Fin n → EReal} (hx : ∀ i, IsReal (x i)) (i : Fin n) : IsReal (Layer.relu x i) :=
  (hx i).max IsReal.zero

/-- The weights and biases that the attention logits depend on are real. -/
structure Weights.Real (w : Weights) : Prop where
  W10 : ∀ i j, IsReal (w.W10 i j)
  b10 : ∀ i, IsReal (w.b10 i)
  W11 : ∀ i j, IsReal (w.W11 i j)
  b11 : ∀ i, IsReal (w.b11 i)
  Wq : ∀ i j, IsReal (w.Wq i j)
  Wk : ∀ i j, IsReal (w.Wk i j)
  Wd1 : ∀ i j, IsReal (w.Wd1 i j)
  bd1 : ∀ i, IsReal (w.bd1 i)
  Wd2 : ∀ i j, IsReal (w.Wd2 i j)
  bd2 : ∀ i, IsReal (w.bd2 i)
  Wg1 : ∀ i j, IsReal (w.Wg1 i j)
  bg1 : ∀ i, IsReal (w.bg1 i)
  Wg2 : ∀ i j, IsReal (w.Wg2 i j)
  bg2 : ∀ i, IsReal (w.bg2 i)

/-- The queries of real node features are real. -/
theorem Weights.Real.query {w : Weights} (h : w.Real) {nf : Fin 3 → EReal} (hn : ∀ j, IsReal (nf j)) (i : Fin 128) :
    IsReal (w.query nf i) := IsReal.mulVec h.Wq (IsReal.lin h.W11 h.b11 hn) i

/-- The attention logits of a point with real data are real. -/
theorem Weights.Real.logit {w : Weights} (h : w.Real) {q : Fin 128 → EReal} {x xf ctr : Fin 3 → EReal}
    (hq : ∀ j, IsReal (q j)) (hx : ∀ j, IsReal (x j)) (hxf : ∀ j, IsReal (xf j)) (hc : ∀ j, IsReal (ctr j)) (i : Fin 128) :
    IsReal (w.logit q x xf ctr i) := by
  refine IsReal.mul (IsReal.lin h.Wg2 h.bg2 (IsReal.relu (IsReal.lin h.Wg1 h.bg1 fun j => ?_)) i) (IsReal.coe _)
  refine ((hq j).sub ?_).add ?_
  · exact IsReal.mulVec h.Wk (IsReal.lin h.W10 h.b10 hxf) j
  · exact IsReal.lin h.Wd2 h.bd2 (IsReal.relu (IsReal.lin h.Wd1 h.bd1 fun j => (hx j).sub (hc j))) j

/-- The embedding of the reals in the extended reals commutes with finite sums. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of extended reals times a real that is not negative is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The quotient of reals by a real that is not zero. -/
theorem div_coe_of_ne {x : EReal} {y : ℝ} (hy : y ≠ 0) : Ideal.div x (y : EReal) = x * ((y⁻¹ : ℝ) : EReal) := by
  have : (y : EReal) ≠ 0 := by exact_mod_cast hy
  rw [Ideal.div, if_neg this, EReal.coe_inv]

/-- A softmax-weighted segment sum over a segment with a point is the quotient of the sum of the weighted exponentials
    by the sum of the exponentials, whatever real number `M` was subtracted from the real logits. -/
theorem softmax_sum {ι : Type} {s : Finset ι} (hs : s.Nonempty) (a : ι → ℝ) (v : ι → EReal) (M : ℝ) :
    ∑ p ∈ s, Ideal.div (Ideal.exp ((a p : EReal) - M)) (∑ q ∈ s, Ideal.exp ((a q : EReal) - M)) * v p
      = Ideal.div (∑ p ∈ s, Ideal.exp (a p : EReal) * v p) (∑ q ∈ s, Ideal.exp (a q : EReal)) := by
  have he : ∀ x : ℝ, Ideal.exp (x : EReal) = ((Real.exp x : ℝ) : EReal) := fun _ => rfl
  simp only [← EReal.coe_sub, he, coe_sum]
  have hS : 0 < ∑ q ∈ s, Real.exp (a q) := Finset.sum_pos (fun _ _ => Real.exp_pos _) hs
  have hS' : 0 < ∑ q ∈ s, Real.exp (a q - M) := Finset.sum_pos (fun _ _ => Real.exp_pos _) hs
  have h1 : ∑ q ∈ s, Real.exp (a q - M) = (∑ q ∈ s, Real.exp (a q)) / Real.exp M := by
    rw [Finset.sum_div]; exact Finset.sum_congr rfl fun q _ => Real.exp_sub _ _
  rw [div_coe_of_ne hS.ne', sum_mul_coe s _ (inv_nonneg.2 hS.le)]
  refine Finset.sum_congr (rfl : s = s) fun p _ => ?_
  rw [div_coe_of_ne hS'.ne', ← EReal.coe_mul, mul_right_comm, ← EReal.coe_mul]
  congr 2
  rw [h1, Real.exp_sub]
  have := (Real.exp_pos M).ne'
  field_simp

/-- The largest of finitely many reals, `-∞` among them, is a real number when there is one. -/
theorem IsReal.fold_max {ι : Type} (s : Finset ι) (hs : s.Nonempty) {f : ι → EReal} (h : ∀ i ∈ s, IsReal (f i)) :
    IsReal (s.sup f) := by
  obtain ⟨i, hi, he⟩ := Finset.exists_mem_eq_sup s hs f
  rw [he]; exact h i hi

end Cert.Layer

end
-- ==== Proof.KernelRunA.lean ====
/-
  The run of the body of the idealized kernel at a grid point of case A. The text is the generated one;
  what differs is its budget, which the generated module's does not cover for this body.
-/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first) IN CASE A (`scf.if` 0 taken, `scf.if` 1 not taken: points 0, 49), WITH the
    proof that on whole staging memrefs — the inputs' at their contents, the outputs it leaves idle (22: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole) (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) :
    Σ' (L22 : List (View.Piece (Elt F) S1x3x2048 .f32)), Σ' (LS0 : List (View.Piece (Elt F) S128x2048 .f32)), Σ' (LS1 : List (View.Piece (Elt F) S128x2048 .f32)), { LS2 : List (View.Piece (Elt F) S128x2048 .f32) //
      ∀ (xi22 : Vec F S1x3x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare xi22 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare xi22 ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, ?_, fun xi22 E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [HS0]; · iexists _; iexact HS0
    isplitl [HS1]; · iexists _; iexact HS1
    iexists _; iexact HS2

end Cert.KernelIdeal.Gen

end
-- ==== Proof.KernelRunB.lean ====
/-
  The run of the body of the idealized kernel at a grid point of case B. The text is the generated one;
  what differs is its budget, which the generated module's does not cover for this body.
-/
module

public import proofs.«01_k».proof.Proof.KernelRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first) IN CASE B (`scf.if` 0 not taken, `scf.if` 1 not taken: points 1, 2, … 96: 94 of 98), WITH the
    proof that on whole staging memrefs — the inputs' at their contents, the outputs it leaves idle (22: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole) (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) :
    Σ' (L22 : List (View.Piece (Elt F) S1x3x2048 .f32)), Σ' (LS0 : List (View.Piece (Elt F) S128x2048 .f32)), Σ' (LS1 : List (View.Piece (Elt F) S128x2048 .f32)), { LS2 : List (View.Piece (Elt F) S128x2048 .f32) //
      ∀ (xi22 : Vec F S1x3x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare xi22 ∗ owns (c : Thread nD τ) arg25 fullShare xs0 ∗ owns (c : Thread nD τ) arg26 fullShare xs1 ∗ owns (c : Thread nD τ) arg27 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare xi22 ∗ owns (c : Thread nD τ) arg25 fullShare xs0 ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], ?_, ?_, fun xi22 E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hfs0; obtain rfl := harg26.eq_unread hfs1; obtain rfl := harg27.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [HS0]
    · iexists _; isplitr; · ipureintro; exact harg25.read_unread _
      iexact HS0
    isplitl [HS1]; · iexists _; iexact HS1
    iexists _; iexact HS2

end Cert.KernelIdeal.Gen

end
-- ==== Proof.KernelRunC.lean ====
/-
  The run of the body of the idealized kernel at a grid point of case C. The text is the generated one;
  what differs is its budget, which the generated module's does not cover for this body.
-/
module

public import proofs.«01_k».proof.Proof.KernelRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first) IN CASE C (`scf.if` 0 not taken, `scf.if` 1 taken: points 48, 97), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole) (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) :
    Σ' (L22 : List (View.Piece (Elt F) S1x3x2048 .f32)), Σ' (LS0 : List (View.Piece (Elt F) S128x2048 .f32)), Σ' (LS1 : List (View.Piece (Elt F) S128x2048 .f32)), { LS2 : List (View.Piece (Elt F) S128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ owns (c : Thread nD τ) arg25 fullShare xs0 ∗ owns (c : Thread nD τ) arg26 fullShare xs1 ∗ owns (c : Thread nD τ) arg27 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ owns (c : Thread nD τ) arg25 fullShare xs0 ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg25.eq_unread hfs0; obtain rfl := harg26.eq_unread hfs1; obtain rfl := harg27.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [HS0]
    · iexists _; isplitr; · ipureintro; exact harg25.read_unread _
      iexact HS0
    isplitl [HS1]; · iexists _; iexact HS1
    iexists _; iexact HS2

end Cert.KernelIdeal.Gen

end
-- ==== Proof.KernelTerms.lean ====
/-
  What the outputs and the scratch buffers of the idealized kernel hold after each grid point, and the data of its
  pipeline. The text is the generated one, over the runs beside it.
-/
module

public import proofs.«01_k».proof.Proof.KernelRunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole)

/-- Case A stores nothing into output 22 (the window is idle at its points and not written back there):
    no pieces — a placeholder (junk read back) that nothing consults, since at these points the window is neither
    written back nor read at the next point (Lib/Pipeline.lean "Idle points"). -/
def out0_A_22 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) : Vec F S1x3x2048 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).1)

/-- Case A's pieces for scratch `arg25`, which the kernel carries between points, cover it: 1 piece of `S128x2048` tiling it (Lib/Ring.lean `Piece.tiledL`). -/
theorem scover0_A_0 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.1 S128x2048.size (by sl_kernel_rfl) y

/-- What case A leaves in scratch `arg25`: its pieces read back over junk. -/
def sout0_A_0 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) : Vec F S128x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.1)

/-- Case A's pieces for scratch `arg26`, which the kernel carries between points, cover it: 2 pieces of `S128x2048` tiling it (Lib/Ring.lean `Piece.tiledL`). -/
theorem scover0_A_1 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.2.1 S128x2048.size (by sl_kernel_rfl) y

/-- What case A leaves in scratch `arg26`: its pieces read back over junk. -/
def sout0_A_1 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) : Vec F S128x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.2.1)

/-- Case A's pieces for scratch `arg27`, which the kernel carries between points, cover it: 2 pieces of `S128x2048` tiling it (Lib/Ring.lean `Piece.tiledL`). -/
theorem scover0_A_2 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.2.2.1 S128x2048.size (by sl_kernel_rfl) y

/-- What case A leaves in scratch `arg27`: its pieces read back over junk. -/
def sout0_A_2 (hc0 : cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) : Vec F S128x2048 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21).2.2.2.1)

/-- Case B stores nothing into output 22 (the window is idle at its points and not written back there):
    no pieces — a placeholder (junk read back) that nothing consults, since at these points the window is neither
    written back nor read at the next point (Lib/Pipeline.lean "Idle points"). -/
def out0_B_22 (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S1x3x2048 .f32 :=
  VO0_22.read (Elt F) (VO0_22.writes (Elt F) VO0_22.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).1)

/-- Case B stores nothing into scratch `arg25`: it holds what the point before left. -/
def sout0_B_0 (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole) (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S128x2048 .f32 := xs0

/-- Case B's pieces for scratch `arg26`, which the kernel carries between points, cover it: 1 piece of `S128x2048` tiling it (Lib/Ring.lean `Piece.tiledL`). -/
theorem scover0_B_1 (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.1 S128x2048.size (by sl_kernel_rfl) y

/-- What case B leaves in scratch `arg26`: its pieces read back over junk. -/
def sout0_B_1 (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S128x2048 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.1)

/-- Case B's pieces for scratch `arg27`, which the kernel carries between points, cover it: 1 piece of `S128x2048` tiling it (Lib/Ring.lean `Piece.tiledL`). -/
theorem scover0_B_2 (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.2.1 S128x2048.size (by sl_kernel_rfl) y

/-- What case B leaves in scratch `arg27`: its pieces read back over junk. -/
def sout0_B_2 (hc0 : ¬cond0_0 i) (hc1 : ¬cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S128x2048 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.2.1)

/-- Case C's pieces for output 22 tile its block (1 store of `S1x3x2048`, checked by the kernel's evaluation: Lib/Ring.lean `Piece.tiledL`, linear in the pieces, through a loop's `@[irreducible]` trip theorem too), so they cover it. -/
theorem cover0_C_22 (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) (y : S1x3x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).1 S1x3x2048.size (by sl_kernel_rfl) y

/-- What case C leaves in output 22's staging buffer: its pieces read back over junk. -/
def out0_C_22 (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S1x3x2048 .f32 :=
  VO0_22.read (Elt F) (VO0_22.writes (Elt F) VO0_22.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).1)

/-- Case C stores nothing into scratch `arg25`: it holds what the point before left. -/
def sout0_C_0 (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole) (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S128x2048 .f32 := xs0

/-- Case C's pieces for scratch `arg26`, which the kernel carries between points, cover it: 1 piece of `S128x2048` tiling it (Lib/Ring.lean `Piece.tiledL`). -/
theorem scover0_C_1 (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.1 S128x2048.size (by sl_kernel_rfl) y

/-- What case C leaves in scratch `arg26`: its pieces read back over junk. -/
def sout0_C_1 (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S128x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.1)

/-- Case C's pieces for scratch `arg27`, which the kernel carries between points, cover it: 1 piece of `S128x2048` tiling it (Lib/Ring.lean `Piece.tiledL`). -/
theorem scover0_C_2 (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.2.1 S128x2048.size (by sl_kernel_rfl) y

/-- What case C leaves in scratch `arg27`: its pieces read back over junk. -/
def sout0_C_2 (hc0 : ¬cond0_0 i) (hc1 : cond0_1 i)
    (x0 : Vec F S1x3x2048 .f32) (x1 : Vec F S1x3x2048 .f32) (x2 : Vec F S1x3x2048 .f32) (x3 : Vec F S1x3x2048 .f32) (x4 : Vec F S1x1x2048 .i32) (x5 : Vec F S128x3 .f32) (x6 : Vec F S128x1 .f32) (x7 : Vec F S128x3 .f32) (x8 : Vec F S128x1 .f32) (x9 : Vec F S128x128 .f32) (x10 : Vec F S128x128 .f32) (x11 : Vec F S128x128 .f32) (x12 : Vec F S128x3 .f32) (x13 : Vec F S128x1 .f32) (x14 : Vec F S128x128 .f32) (x15 : Vec F S128x1 .f32) (x16 : Vec F S128x128 .f32) (x17 : Vec F S128x1 .f32) (x18 : Vec F S128x128 .f32) (x19 : Vec F S128x1 .f32) (x20 : Vec F S3x128 .f32) (x21 : Vec F S3x1 .f32) (xs0 : Vec F S128x2048 .f32) (xs1 : Vec F S128x2048 .f32) (xs2 : Vec F S128x2048 .f32) : Vec F S128x2048 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2).2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x3x2048 .f32 × Vec F S128x2048 .f32 × Vec F S128x2048 .f32 × Vec F S128x2048 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩))
  | n + 1, hn =>
    if h0 : (n + 1) % 49 = 0 then
      if h1 : (n + 1) % 49 = 48 then
        False.elim (by have hN : n + 1 < 98 := lt_of_lt_of_eq hn (show cfg0.N = 98 from N_0); omega)
      else
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩))
    else
      if h1 : (n + 1) % 49 = 48 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 49 = 0) (h1 : ¬t.val % 49 = 48) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 49 = 0) (h1 : ¬t.val % 49 = 48) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 49 = 0) (h1 : t.val % 49 = 48) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

end Cert.KernelIdeal.Gen

end
-- ==== Proof.KernelFrame.lean ====
/-
  The frame of the idealized kernel: its body meets its obligation at every grid point, and the program ends with its
  arguments unchanged and every counter at zero. The text is the generated one.
-/
module

public import proofs.«01_k».proof.Proof.KernelTerms
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  have hN : t.val < 98 := lt_of_lt_of_eq t.isLt (show cfg0.N = 98 from N_0)
  by_cases h0 : t.val % 49 = 0
  · by_cases h1 : t.val % 49 = 48
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [Dat.leavesExact_idle (dats m 0 c) 22 t (idleAt0_22_A t ((hcond0_0 t).mpr h0) (fun h => h1 ((hcond0_1 t).mp h))) (noFlush0_22_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, H21, H22, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22
      · rw [PhiS_castSucc m c t, PhiS_pos m c _ _ hz]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexists _; iexact HS0
        isplitl [HS1]; · iexists _; iexact HS1
        isplitl [HS2]; · iexists _; iexact HS2
        iintro ⟨H0, H1, H2, H3, H4, H5, H6, H7, H8, H9, H10, H11, H12, H13, H14, H15, H16, H17, H18, H19, H20, H21, H22, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22
  · by_cases h1 : t.val % 49 = 48
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22_C t (fun h => h0 ((hcond0_0 t).mp h)) ((hcond0_1 t).mpr h1)], after0_22]
      by_cases hz : t.val = 0
      · exfalso; have hN : t.val < 98 := lt_of_lt_of_eq t.isLt (show cfg0.N = 98 from N_0); omega
      · rw [PhiS_castSucc m c t, PhiS_pos m c _ _ hz]
        rw [outsAt0_C m c t h0 h1]
        unfold out0_C_22 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, H21, ⟨%e22, H22⟩, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        unfold owns; iexists _; isplitr
        swap; · iexact H22
        ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [Dat.leavesExact_idle (dats m 0 c) 22 t (idleAt0_22_B t (fun h => h0 ((hcond0_0 t).mp h)) (fun h => h1 ((hcond0_1 t).mp h))) (noFlush0_22_B t (fun h => h0 ((hcond0_0 t).mp h)) (fun h => h1 ((hcond0_1 t).mp h)))]
      by_cases hz : t.val = 0
      · exfalso; have hN : t.val < 98 := lt_of_lt_of_eq t.isLt (show cfg0.N = 98 from N_0); omega
      · rw [PhiS_castSucc m c t, PhiS_pos m c _ _ hz]
        rw [outsAt0_B m c t h0 h1]
        unfold sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, H21, H22, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 98 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.KernelIdeal.Gen

end
-- ==== Proof.KernelValue.lean ====
/-
  The array that the kernel leaves, as a fold of what each grid point does over the points before it.
  The text is the generated one, over the frame beside it.
-/
module

public import proofs.«01_k».proof.Proof.KernelFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 22's array: the run's contents for that window after the body (`Gen.outsAt0`: its component 0), read through the window's block. -/
theorem flushed22 (c : Dev nD) (t : Fin cfg0.N) :
    (dats m 0 c).flushed 22 t = (cfg0.win 22).cut (grid0.coords t) ((outsAt0 m c t.val t.isLt).1) := by
  show (cfg0.win 22).cut (grid0.coords t) ((dats m 0 c).after 22 t) = _
  rw [after0_22]

/-- An index that no flushing point's block covers keeps output window 22's array contents at region entry. -/
theorem entry22 (c : Dev nD) (i : S2x3x2048.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v18) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: input window 16 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: input window 18 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: input window 20 stages it and never writes it back. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v18) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c⟩)
    (run_main m ρ)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x3x2048 .f32 × Vec F S128x2048 .f32 × Vec F S128x2048 .f32 × Vec F S128x2048 .f32 :=
  ((VO0_22.read (Elt F) VO0_22.junk, VS0_0.read (Elt F) VS0_0.junk, VS0_1.read (Elt F) VS0_1.junk, VS0_2.read (Elt F) VS0_2.junk) : Vec F S1x3x2048 .f32 × Vec F S128x2048 .f32 × Vec F S128x2048 .f32 × Vec F S128x2048 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x3x2048 .f32 × Vec F S128x2048 .f32 × Vec F S128x2048 .f32 × Vec F S128x2048 .f32) : Vec F S1x3x2048 .f32 × Vec F S128x2048 .f32 × Vec F S128x2048 .f32 × Vec F S128x2048 .f32 :=
  if h0 : n % 49 = 0 then
    if h1 : n % 49 = 48 then
      False.elim (by have hN : n < 98 := lt_of_lt_of_eq hb (show cfg0.N = 98 from N_0); omega)
    else
      (out0_A_22 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)))
  else
    if h1 : n % 49 = 48 then
      (out0_C_22 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2)
    else
      (out0_B_22 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2)

/-- `stAt0` at a point of case A: that case's contents. -/
theorem stAt0_A (c : Dev nD) (t : Fin cfg0.N) (acc : Vec F S1x3x2048 .f32 × Vec F S128x2048 .f32 × Vec F S128x2048 .f32 × Vec F S128x2048 .f32) (h0 : t.val % 49 = 0) (h1 : ¬t.val % 49 = 48) :
    stAt0 m c t.val t.isLt acc = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) :=
  (dif_pos h0).trans ((dif_neg h1).trans rfl)

/-- `stAt0` at a point of case B: that case's contents, over `acc`. -/
theorem stAt0_B (c : Dev nD) (t : Fin cfg0.N) (acc : Vec F S1x3x2048 .f32 × Vec F S128x2048 .f32 × Vec F S128x2048 .f32 × Vec F S128x2048 .f32) (h0 : ¬t.val % 49 = 0) (h1 : ¬t.val % 49 = 48) :
    stAt0 m c t.val t.isLt acc = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2) :=
  (dif_neg h0).trans ((dif_neg h1).trans rfl)

/-- `stAt0` at a point of case C: that case's contents, over `acc`. -/
theorem stAt0_C (c : Dev nD) (t : Fin cfg0.N) (acc : Vec F S1x3x2048 .f32 × Vec F S128x2048 .f32 × Vec F S128x2048 .f32 × Vec F S128x2048 .f32) (h0 : ¬t.val % 49 = 0) (h1 : t.val % 49 = 48) :
    stAt0 m c t.val t.isLt acc = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) acc.2.1 acc.2.2.1 acc.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 98 from N_0)
  have e := Pipeline.eq_accAt_of_mod (fun n h => outsAt0 m c n h) 98 (fun n h => stAt0 m c n h junk0) (stAt0 m c)
    (fun n h _ => by
      have hN := lt_of_lt_of_eq h (show cfg0.N = 98 from N_0)
      obtain rfl : n = 0 := by omega
      exact outsAt0_zero m c h)
    (fun n h _ => outsAt0_succ m c n h)
    (by decide) n hn (by have := Nat.div_add_mod n 98; omega)
  have hd : n / 98 = 0 := Nat.div_eq_of_lt hN
  have hm : n % 98 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 22 -/

/-- The block of the array that holds index `i`, numbered in the order the points write the blocks back (one every 49 points),
    `i`'s place in it, and the point that writes it back (the last of its 49). -/
abbrev run22Of (i : S2x3x2048.Idx) : ℕ := 1 * ((i 0).val / 1 - 0) + 1 * ((i 1).val / 3 - 0) + 1 * ((i 2).val / 2048 - 0)
set_option backward.proofsInPublic true in
abbrev loc22Of (i : S2x3x2048.Idx) : S1x3x2048.Idx := fun a => match a with
  | ⟨0, _⟩ => ⟨(i 0).val % 1, Nat.mod_lt _ (by decide)⟩
  | ⟨1, _⟩ => ⟨(i 1).val % 3, Nat.mod_lt _ (by decide)⟩
  | ⟨2, _⟩ => ⟨(i 2).val % 2048, Nat.mod_lt _ (by decide)⟩
abbrev pt22Of (i : S2x3x2048.Idx) : ℕ := 49 * run22Of i + 48

/-- WHAT THE ARRAY ENDS HOLDING at index `i` inside the box the flushing blocks fill: output 22's component of the carried
    state's fold at the point that writes `i`'s block back, at `i`'s place in the block. `G22` states the array's contents
    only inside the box. -/
def G22 (c : Dev nD) : Buf (Elt F) ((c : Thread nD τ).loc main_v18) := fun i =>
  if h : pt22Of i < cfg0.N then
    (Pipeline.accAt (fun n h => stAt0 m c n h junk0) (stAt0 m c) 0 (pt22Of i) (by omega)).1 (loc22Of i)
  else V m c (Pipeline.arrRef spec0 22) i

/-- The printed index map, decided over the grid: output window 22's block indices stay in the box, and the block number
    read off them is the point's (`t / 49`). -/
theorem idx_facts22 : ∀ t : Fin cfg0.N, 0 ≤ win0_22.index t (0 : Fin 3) ∧ win0_22.index t (0 : Fin 3) ≤ 1
    ∧ 0 ≤ win0_22.index t (1 : Fin 3) ∧ win0_22.index t (1 : Fin 3) ≤ 0
    ∧ 0 ≤ win0_22.index t (2 : Fin 3) ∧ win0_22.index t (2 : Fin 3) ≤ 0
    ∧ 1 * (win0_22.index t (0 : Fin 3) - 0) + 1 * (win0_22.index t (1 : Fin 3) - 0) + 1 * (win0_22.index t (2 : Fin 3) - 0) = t.val / 49 :=
  (by decide +kernel : ∀ t : Fin grid0.N, _)

/-- Every block of the box is SOME flushing point's: `onto22Pt`, the point that writes back the block at place `q` of the box (the last point of its run). -/
abbrev onto22Pt (q0 : Fin 2) (q1 : Fin 1) (q2 : Fin 1) : Fin grid0.N :=
  ⟨49 * (1 * q0.val + 1 * q1.val + 1 * q2.val) + 48, lt_of_lt_of_eq (by omega) N_0.symm⟩
theorem idx_onto22 : ∀ (q0 : Fin 2) (q1 : Fin 1) (q2 : Fin 1), ∃ t : Fin cfg0.N, (cfg0.win 22).flush t = true ∧ win0_22.index t = ![q0.val + 0, q1.val + 0, q2.val + 0] :=
  fun q0 q1 q2 => ⟨onto22Pt q0 q1 q2, (by decide +kernel : ∀ (q0 : Fin 2) (q1 : Fin 1) (q2 : Fin 1), win0_22.flush (onto22Pt q0 q1 q2) = true ∧ win0_22.index (onto22Pt q0 q1 q2) = ![q0.val + 0, q1.val + 0, q2.val + 0]) q0 q1 q2⟩

/-- WHAT A FLUSHING POINT `t` WRITES BACK is block `t` of `G22`: output 22's component of the fold up to `t`. -/
theorem flushed22_eq (c : Dev nD) (t : Fin cfg0.N) (hf : (cfg0.win 22).flush t = true) :
    (dats m 0 c).flushed 22 t = ((cfg0.win 22).blk t).view.read (Elt F) (G22 m c) := by
  show (cfg0.win 22).cut (grid0.coords t) ((dats m 0 c).after 22 t) = _
  rw [after0_22, outsAt0_sweep]
  have hm : t.val % 49 = 48 := (flush0_22 t).mp hf
  obtain ⟨e0, e1, e2, e3⟩ := idx_facts22 t
  funext y
  have hy0 : (y 0).val < 1 := (y 0).isLt
  have hy1 : (y 1).val < 3 := (y 1).isLt
  have hy2 : (y 2).val < 2048 := (y 2).isLt
  have hb0 : (((cfg0.win 22).blk t).view.emb y 0).val = win0_22.index t (0 : Fin 3) * 1 + 1 * (y 0).val := rfl
  have hb1 : (((cfg0.win 22).blk t).view.emb y 1).val = win0_22.index t (1 : Fin 3) * 3 + 1 * (y 1).val := rfl
  have hb2 : (((cfg0.win 22).blk t).view.emb y 2).val = win0_22.index t (2 : Fin 3) * 2048 + 1 * (y 2).val := rfl
  have hr : run22Of (((cfg0.win 22).blk t).view.emb y) = t.val / 49 := by
    show 1 * ((((cfg0.win 22).blk t).view.emb y 0).val / 1 - 0) + 1 * ((((cfg0.win 22).blk t).view.emb y 1).val / 3 - 0) + 1 * ((((cfg0.win 22).blk t).view.emb y 2).val / 2048 - 0) = _
    rw [hb0, hb1, hb2]
    rw [show (win0_22.index t (0 : Fin 3) * 1 + 1 * (y 0).val) / 1 = win0_22.index t (0 : Fin 3) from by omega]; rw [show (win0_22.index t (1 : Fin 3) * 3 + 1 * (y 1).val) / 3 = win0_22.index t (1 : Fin 3) from by omega]; rw [show (win0_22.index t (2 : Fin 3) * 2048 + 1 * (y 2).val) / 2048 = win0_22.index t (2 : Fin 3) from by omega]
    omega
  have hl : loc22Of (((cfg0.win 22).blk t).view.emb y) = (cfg0.win 22).xinj (grid0.coords t) y := by
    funext a; apply Fin.ext
    match a with
    | ⟨0, _⟩ => show (((cfg0.win 22).blk t).view.emb y 0).val % 1 = (y 0).val; rw [hb0]; omega
    | ⟨1, _⟩ => show (((cfg0.win 22).blk t).view.emb y 1).val % 3 = (y 1).val; rw [hb1]; omega
    | ⟨2, _⟩ => show (((cfg0.win 22).blk t).view.emb y 2).val % 2048 = (y 2).val; rw [hb2]; omega
  have hp : pt22Of (((cfg0.win 22).blk t).view.emb y) = t.val := by
    show 49 * run22Of (((cfg0.win 22).blk t).view.emb y) + 48 = _
    rw [hr]; have := Nat.div_add_mod t.val 49; omega
  show (Pipeline.accAt (fun n h => stAt0 m c n h junk0) (stAt0 m c) 0 t.val _).1 ((cfg0.win 22).xinj (grid0.coords t) y) = G22 m c (((cfg0.win 22).blk t).view.emb y)
  unfold G22
  rw [dif_pos (by rw [hp]; exact t.isLt), hl, fold0_congr m c _ _ _ _ hp.symm]

/-- An index of the array is in point `t`'s block iff each coordinate is in the block's range on its axis. -/
theorem mem_blk22 (t : Fin cfg0.N) (i : S2x3x2048.Idx) :
    i ∈ ((cfg0.win 22).blk t).view.set ↔ ∀ a : Fin 3, win0_22.index t a * S1x3x2048.size a ≤ (i a).val ∧ (i a).val < win0_22.index t a * S1x3x2048.size a + S1x3x2048.size a := by
  show i ∈ ((View.whole main_v18).slice (win0_22.rect t)).set ↔ _
  rw [View.set_slice_whole, Rect.mem_set_unit]
  exact Iff.rfl

/-- THE COVERED INDICES: in some flushing point's block iff inside the box those blocks fill. -/
theorem covered_iff22 (i : S2x3x2048.Idx) :
    (∃ t : Fin cfg0.N, (cfg0.win 22).flush t = true ∧ i ∈ ((cfg0.win 22).blk t).view.set) ↔ 0 ≤ (i 0).val ∧ (i 0).val < 2 ∧ 0 ≤ (i 1).val ∧ (i 1).val < 3 ∧ 0 ≤ (i 2).val ∧ (i 2).val < 2048 := by
  constructor
  · rintro ⟨t, -, hi⟩
    rw [mem_blk22] at hi
    have b0 : win0_22.index t (0 : Fin 3) * 1 ≤ (i 0).val ∧ (i 0).val < win0_22.index t (0 : Fin 3) * 1 + 1 := hi 0
    have b1 : win0_22.index t (1 : Fin 3) * 3 ≤ (i 1).val ∧ (i 1).val < win0_22.index t (1 : Fin 3) * 3 + 3 := hi 1
    have b2 : win0_22.index t (2 : Fin 3) * 2048 ≤ (i 2).val ∧ (i 2).val < win0_22.index t (2 : Fin 3) * 2048 + 2048 := hi 2
    obtain ⟨e0, e1, e2, e3⟩ := idx_facts22 t
    omega
  · intro h
    have hi0 : (i 0).val < 2 := (i 0).isLt
    have hi1 : (i 1).val < 3 := (i 1).isLt
    have hi2 : (i 2).val < 2048 := (i 2).isLt
    obtain ⟨t, hft, ht⟩ := idx_onto22 ⟨(i 0).val / 1 - 0, by omega⟩ ⟨(i 1).val / 3 - 0, by omega⟩ ⟨(i 2).val / 2048 - 0, by omega⟩
    have q0 : win0_22.index t (0 : Fin 3) = (i 0).val / 1 - 0 + 0 := congrFun ht 0
    have q1 : win0_22.index t (1 : Fin 3) = (i 1).val / 3 - 0 + 0 := congrFun ht 1
    have q2 : win0_22.index t (2 : Fin 3) = (i 2).val / 2048 - 0 + 0 := congrFun ht 2
    refine ⟨t, hft, ?_⟩
    rw [mem_blk22]
    intro a
    match a with
    | ⟨0, _⟩ => show win0_22.index t (0 : Fin 3) * 1 ≤ (i 0).val ∧ (i 0).val < win0_22.index t (0 : Fin 3) * 1 + 1; omega
    | ⟨1, _⟩ => show win0_22.index t (1 : Fin 3) * 3 ≤ (i 1).val ∧ (i 1).val < win0_22.index t (1 : Fin 3) * 3 + 3; omega
    | ⟨2, _⟩ => show win0_22.index t (2 : Fin 3) * 2048 ≤ (i 2).val ∧ (i 2).val < win0_22.index t (2 : Fin 3) * 2048 + 2048; omega

/-- THE ARRAY after the run: `G22` (the flushing blocks tile it). -/
theorem final22 (c : Dev nD) : (dats m 0 c).arrAt 22 cfg0.N = G22 m c :=
  (dats m 0 c).arrAt_eq_of_cover 22 _ (fun t hf => flushed22_eq m c t hf) (fun i => (covered_iff22 i).2 (by
    have h0 : (i 0).val < 2 := (i 0).isLt; have h1 : (i 1).val < 3 := (i 1).isLt; have h2 : (i 2).val < 2048 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v18) = G22 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(post22 m r h c).trans (final22 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c⟩)
    (run_main m ρ)

end Cert.KernelIdeal.Value

end
-- ==== Proof.KernelBlock.lean ====
/-
  What the kernel's body computes from the blocks of one grid point, element by element.
-/
module

public import proofs.«01_k».proof.Proof.Mathematics
public import proofs.«01_k».proof.Proof.KernelValue

@[expose] public section

set_option maxRecDepth 16384

noncomputable section

namespace Cert.Layer

open Idealize.ShloMosaic Idealize.ShloMosaic.TcCoe
open Cert.KernelIdeal Cert.KernelIdeal.Gen

/-- The weights held in the blocks of a grid point, the biases as columns. -/
def blockWeights (x5 : Vec Ideal S128x3 .f32) (x6 : Vec Ideal S128x1 .f32) (x7 : Vec Ideal S128x3 .f32)
    (x8 : Vec Ideal S128x1 .f32) (x9 x10 x11 : Vec Ideal S128x128 .f32) (x12 : Vec Ideal S128x3 .f32)
    (x13 : Vec Ideal S128x1 .f32) (x14 : Vec Ideal S128x128 .f32) (x15 : Vec Ideal S128x1 .f32)
    (x16 : Vec Ideal S128x128 .f32) (x17 : Vec Ideal S128x1 .f32) (x18 : Vec Ideal S128x128 .f32)
    (x19 : Vec Ideal S128x1 .f32) (x20 : Vec Ideal S3x128 .f32) (x21 : Vec Ideal S3x1 .f32) : Weights where
  W10 := fun i j => x5 (ix2 i j)
  b10 := fun i => x6 (ix2 i 0)
  W11 := fun i j => x7 (ix2 i j)
  b11 := fun i => x8 (ix2 i 0)
  Wq := fun i j => x9 (ix2 i j)
  Wk := fun i j => x10 (ix2 i j)
  Wv := fun i j => x11 (ix2 i j)
  Wd1 := fun i j => x12 (ix2 i j)
  bd1 := fun i => x13 (ix2 i 0)
  Wd2 := fun i j => x14 (ix2 i j)
  bd2 := fun i => x15 (ix2 i 0)
  Wg1 := fun i j => x16 (ix2 i j)
  bg1 := fun i => x17 (ix2 i 0)
  Wg2 := fun i j => x18 (ix2 i j)
  bg2 := fun i => x19 (ix2 i 0)
  W2 := fun i j => x20 (ix2 i j)
  b2 := fun i => x21 (ix2 i 0)

/-- The kernel's named constant is the reciprocal square root of the width. -/
theorem named_scalar : Named.named (F := Ideal) Cert.KernelIdeal.κ "inv_sqrt_d" (φ := .f32) 0x3DB504F3#32
    = (((Real.sqrt 128)⁻¹ : ℝ) : EReal) :=
  IdealRules.named_const.ideal_named_scalar _ _ _ _ rfl

/-- The mask of points onto nodes: one where the point's index is the node's number, zero elsewhere. -/
theorem pay8_apply (v7 : Vec Ideal S1x1x2048 .i32) (r k : Fin 2048) :
    k0_pay8 (F := Ideal) v7 (ix2 r k) = if BitVec.ofNat 32 r.val = v7 (ix3 0 0 k) then 1 else 0 := by
  pointwise [k0_pay8]
  by_cases h : BitVec.ofNat 32 r.val = v7 (ix3 0 0 k)
  · simp only [h, IntOp.cmpi_eq_self, if_true]
    show ((((BitVec.setWidth 32 1#1).toInt : ℝ)) : EReal) = 1
    norm_num
  · rw [if_neg h]
    have : IntOp.cmpi CmpIPredicate.eq (BitVec.ofNat 32 r.val) (v7 (ix3 0 0 k)) = 0#1 := by
      have h' : (BitVec.ofNat 32 r.val == v7 (ix3 0 0 k)) = false := by simpa using h
      simp [IntOp.cmpi, h']
    rw [this]
    show ((((BitVec.setWidth 32 0#1).toInt : ℝ)) : EReal) = 0
    norm_num

/-- Node numbers below 2048 are distinct words. -/
theorem ofNat_inj {r m : Fin 2048} (h : BitVec.ofNat 32 r.val = BitVec.ofNat 32 m.val) : r = m := by
  have h' := congrArg BitVec.toNat h
  have h1 := r.isLt; have h2 := m.isLt
  simp only [BitVec.toNat_ofNat] at h'
  exact Fin.ext (by omega)

/-- A row times the mask's column of a point whose index is `m` is the row's entry at `m`. -/
theorem gather_onehot (v7 : Vec Ideal S1x1x2048 .i32) (k m : Fin 2048) (h : BitVec.ofNat 32 m.val = v7 (ix3 0 0 k))
    (f : Fin 2048 → EReal) : ∑ r, f r * k0_pay8 (F := Ideal) v7 (ix2 r k) = f m := by
  rw [Finset.sum_eq_single m]
  · rw [pay8_apply, if_pos h, mul_one]
  · intro r _ hr
    rw [pay8_apply, if_neg (fun h' => hr (ofNat_inj (h'.trans h.symm))), mul_zero]
  · intro h'; exact absurd (Finset.mem_univ m) h'

/-- The node queries of one batch. -/
theorem pay4_apply (W11 : Vec Ideal S128x3 .f32) (nf : Vec Ideal S1x3x2048 .f32) (b11 : Vec Ideal S128x1 .f32)
    (Wq : Vec Ideal S128x128 .f32) (c : Fin 128) (r : Fin 2048) :
    k0_pay4 (F := Ideal) W11 nf b11 Wq (ix2 c r)
      = mul (fun i j => Wq (ix2 i j)) (lin (fun i j => W11 (ix2 i j)) (fun i => b11 (ix2 i 0)) fun j => nf (ix3 0 j r)) c := by
  pointwise [k0_pay4]
  rfl

theorem pay5_apply (c : Fin 128) (r : Fin 2048) : k0_pay5 (F := Ideal) (ix2 c r) = 0 := by pointwise [k0_pay5]
theorem pay6_apply (c : Fin 128) (r : Fin 2048) : k0_pay6 (F := Ideal) (ix2 c r) = 0 := by pointwise [k0_pay6]

/-- The product with the weights of keys, or of values, of the points' features. -/
theorem pay10_apply (x1 : Vec Ideal S1x3x2048 .f32) (x5 : Vec Ideal S128x3 .f32) (x6 : Vec Ideal S128x1 .f32)
    (x10 : Vec Ideal S128x128 .f32) (c : Fin 128) (k : Fin 2048) :
    k0_pay10 (F := Ideal) x1 x5 x6 x10 (ix2 c k)
      = mul (fun i j => x10 (ix2 i j)) (lin (fun i j => x5 (ix2 i j)) (fun i => x6 (ix2 i 0)) fun j => x1 (ix3 0 j k)) c := by
  pointwise [k0_pay10, k0_pay9]
  rfl

theorem pay11_apply (x1 : Vec Ideal S1x3x2048 .f32) (x5 : Vec Ideal S128x3 .f32) (x6 : Vec Ideal S128x1 .f32)
    (x11 : Vec Ideal S128x128 .f32) (c : Fin 128) (k : Fin 2048) :
    k0_pay11 (F := Ideal) x1 x5 x6 x11 (ix2 c k)
      = mul (fun i j => x11 (ix2 i j)) (lin (fun i j => x5 (ix2 i j)) (fun i => x6 (ix2 i 0)) fun j => x1 (ix3 0 j k)) c := by
  pointwise [k0_pay11, k0_pay9]
  rfl

/-- The points' node queries: the query table times the mask. -/
theorem pay12_apply (x4 : Vec Ideal S1x1x2048 .i32) (q : Vec Ideal S128x2048 .f32) (c : Fin 128) (k : Fin 2048) :
    k0_pay12 (F := Ideal) x4 q (ix2 c k) = ∑ r, q (ix2 c r) * k0_pay8 (F := Ideal) x4 (ix2 r k) := by
  pointwise [k0_pay12]

theorem pay7_apply (x0 : Vec Ideal S1x3x2048 .f32) (j : Fin 3) (k : Fin 2048) :
    k0_pay7 (F := Ideal) x0 (ix2 j k) = x0 (ix3 0 j k) := by pointwise [k0_pay7]
theorem pay13_apply (x2 : Vec Ideal S1x3x2048 .f32) (j : Fin 3) (k : Fin 2048) :
    k0_pay13 (F := Ideal) x2 (ix2 j k) = x2 (ix3 0 j k) := by pointwise [k0_pay13]

/-- The position encodings of the points. -/
theorem pay14_apply (v4 : FVec Ideal S3x2048 .f32) (v14 : FVec Ideal S2048x2048 .f32) (v28 : FVec Ideal S3x2048 .f32)
    (v30 : Vec Ideal S128x3 .f32) (v33 : Vec Ideal S128x1 .f32) (v39 : Vec Ideal S128x128 .f32) (v41 : Vec Ideal S128x1 .f32)
    (c : Fin 128) (k : Fin 2048) :
    k0_pay14 (F := Ideal) v4 v14 v28 v30 v33 v39 v41 (ix2 c k)
      = lin (fun i j => v39 (ix2 i j)) (fun i => v41 (ix2 i 0)) (relu (lin (fun i j => v30 (ix2 i j)) (fun i => v33 (ix2 i 0))
          fun j => v4 (ix2 j k) - ∑ r, v28 (ix2 j r) * v14 (ix2 r k))) c := by
  pointwise [k0_pay14]
  rfl

/-- The exponentials of the points' attention logits. -/
theorem pay15_apply (v4 : FVec Ideal S3x2048 .f32) (v14 : FVec Ideal S2048x2048 .f32) (v22 v26 : FVec Ideal S128x2048 .f32)
    (v28 : FVec Ideal S3x2048 .f32) (v30 : Vec Ideal S128x3 .f32) (v33 : Vec Ideal S128x1 .f32) (v39 : Vec Ideal S128x128 .f32)
    (v41 : Vec Ideal S128x1 .f32) (v45 : Vec Ideal S128x128 .f32) (v49 : Vec Ideal S128x1 .f32) (v55 : Vec Ideal S128x128 .f32)
    (v57 : Vec Ideal S128x1 .f32) (c : Fin 128) (k : Fin 2048) :
    k0_pay15 (F := Ideal) v4 v14 v22 v26 v28 v30 v33 v39 v41 v45 v49 v55 v57 (ix2 c k)
      = Ideal.exp (lin (fun i j => v55 (ix2 i j)) (fun i => v57 (ix2 i 0)) (relu (lin (fun i j => v45 (ix2 i j)) (fun i => v49 (ix2 i 0))
          fun j => v26 (ix2 j k) - v22 (ix2 j k) + k0_pay14 (F := Ideal) v4 v14 v28 v30 v33 v39 v41 (ix2 j k))) c
          * (((Real.sqrt 128)⁻¹ : ℝ) : EReal)) := by
  rw [← named_scalar]
  pointwise [k0_pay15]
  rfl

/-- The sums of exponentials after a block: each point adds its exponential to its node's. -/
theorem pay1_apply (v14 : FVec Ideal S2048x2048 .f32) (v63 : FVec Ideal S128x2048 .f32) (v66 : Vec Ideal S128x2048 .f32)
    (c : Fin 128) (m : Fin 2048) :
    k0_pay1 (F := Ideal) v14 v63 v66 (ix2 c m) = v66 (ix2 c m) + ∑ k, v63 (ix2 c k) * v14 (ix2 m k) := by
  pointwise [k0_pay1]

/-- The sums of weighted values after a block. -/
theorem pay2_apply (v14 : FVec Ideal S2048x2048 .f32) (v63 v64 : FVec Ideal S128x2048 .f32) (v72 : Vec Ideal S128x2048 .f32)
    (c : Fin 128) (m : Fin 2048) :
    k0_pay2 (F := Ideal) v14 v63 v64 v72 (ix2 c m)
      = v72 (ix2 c m) + ∑ k, v63 (ix2 c k) * v64 (ix2 c k) * v14 (ix2 m k) := by
  pointwise [k0_pay2]

/-- The result of a batch from the two sums. -/
theorem pay3_apply (v81 v86 : Vec Ideal S128x2048 .f32) (v88 : Vec Ideal S3x128 .f32) (v90 : Vec Ideal S3x1 .f32)
    (v94 : Vec Ideal S1x3x2048 .f32) (i : Fin 3) (m : Fin 2048) :
    k0_pay3 (F := Ideal) v81 v86 v88 v90 v94 (ix3 0 i m)
      = lin (fun i j => v88 (ix2 i j)) (fun i => v90 (ix2 i 0))
          (fun c => Ideal.div (v86 (ix2 c m)) (if 0 < v81 (ix2 c m) then v81 (ix2 c m) else 1)) i + v94 (ix3 0 i m) := by
  pointwise [k0_pay3]
  rfl

/-- What a point adds to its node: its exponential where its index is the node's number, nothing elsewhere. `q` is the
    node's query, `ctr` its position, `x` and `xf` the point's position and features. -/
def Weights.expAt (w : Weights) (i : BitVec 32) (m : ℕ) (q : Fin 128 → EReal) (x xf ctr : Fin 3 → EReal) (c : Fin 128) : EReal :=
  if BitVec.ofNat 32 m = i then Ideal.exp (w.logit q x xf ctr c) else 0

/-- The same for the weighted value. -/
def Weights.valAt (w : Weights) (i : BitVec 32) (m : ℕ) (q : Fin 128 → EReal) (x xf ctr : Fin 3 → EReal) (c : Fin 128) : EReal :=
  if BitVec.ofNat 32 m = i then Ideal.exp (w.logit q x xf ctr c) * w.val x xf ctr c else 0

section
variable (x0 x1 x2 : Vec Ideal S1x3x2048 .f32) (x4 : Vec Ideal S1x1x2048 .i32) (x5 : Vec Ideal S128x3 .f32)
  (x6 : Vec Ideal S128x1 .f32) (x7 : Vec Ideal S128x3 .f32)
  (x8 : Vec Ideal S128x1 .f32) (x9 x10 x11 : Vec Ideal S128x128 .f32) (x12 : Vec Ideal S128x3 .f32)
  (x13 : Vec Ideal S128x1 .f32) (x14 : Vec Ideal S128x128 .f32) (x15 : Vec Ideal S128x1 .f32)
  (x16 : Vec Ideal S128x128 .f32) (x17 : Vec Ideal S128x1 .f32) (x18 : Vec Ideal S128x128 .f32)
  (x19 : Vec Ideal S128x1 .f32) (x20 : Vec Ideal S3x128 .f32) (x21 : Vec Ideal S3x1 .f32)
  (q acc : Vec Ideal S128x2048 .f32) (c : Fin 128) (m k : Fin 2048)

/-- The position encoding of a point whose index is `m`, as the body computes it. -/
theorem pos_at (h : BitVec.ofNat 32 m.val = x4 (ix3 0 0 k)) :
    k0_pay14 (F := Ideal) (k0_pay7 x0) (k0_pay8 x4) (k0_pay13 x2) x12 x13 x14 x15 (ix2 c k)
      = (blockWeights x5 x6 x7 x8 x9 x10 x11 x12 x13 x14 x15 x16 x17 x18 x19 x20 x21).pos
          (fun j => x0 (ix3 0 j k)) (fun j => x2 (ix3 0 j m)) c := by
  rw [pay14_apply]
  simp only [gather_onehot x4 k m h, pay7_apply, pay13_apply]
  rfl

/-- The exponential of a point whose index is `m`, as the body computes it. -/
theorem exp_at (h : BitVec.ofNat 32 m.val = x4 (ix3 0 0 k)) :
    k0_pay15 (F := Ideal) (k0_pay7 x0) (k0_pay8 x4) (k0_pay10 x1 x5 x6 x10) (k0_pay12 x4 q) (k0_pay13 x2)
        x12 x13 x14 x15 x16 x17 x18 x19 (ix2 c k)
      = Ideal.exp ((blockWeights x5 x6 x7 x8 x9 x10 x11 x12 x13 x14 x15 x16 x17 x18 x19 x20 x21).logit
          (fun j => q (ix2 j m)) (fun j => x0 (ix3 0 j k)) (fun j => x1 (ix3 0 j k)) (fun j => x2 (ix3 0 j m)) c) := by
  rw [pay15_apply]
  simp only [pay12_apply, gather_onehot x4 k m h, pay10_apply,
    pos_at x0 x2 x4 x5 x6 x7 x8 x9 x10 x11 x12 x13 x14 x15 x16 x17 x18 x19 x20 x21 _ m k h]
  rfl

/-- The value of a point whose index is `m`, position encoding added, as the body computes it. -/
theorem val_at (h : BitVec.ofNat 32 m.val = x4 (ix3 0 0 k)) :
    k0_pay16 (F := Ideal) (k0_pay7 x0) (k0_pay8 x4) (k0_pay11 x1 x5 x6 x11) (k0_pay13 x2) x12 x13 x14 x15 (ix2 c k)
      = (blockWeights x5 x6 x7 x8 x9 x10 x11 x12 x13 x14 x15 x16 x17 x18 x19 x20 x21).val
          (fun j => x0 (ix3 0 j k)) (fun j => x1 (ix3 0 j k)) (fun j => x2 (ix3 0 j m)) c := by
  have e : k0_pay16 (F := Ideal) (k0_pay7 x0) (k0_pay8 x4) (k0_pay11 x1 x5 x6 x11) (k0_pay13 x2) x12 x13 x14 x15 (ix2 c k)
      = k0_pay11 (F := Ideal) x1 x5 x6 x11 (ix2 c k)
        + k0_pay14 (F := Ideal) (k0_pay7 x0) (k0_pay8 x4) (k0_pay13 x2) x12 x13 x14 x15 (ix2 c k) := rfl
  rw [e, pos_at x0 x2 x4 x5 x6 x7 x8 x9 x10 x11 x12 x13 x14 x15 x16 x17 x18 x19 x20 x21 c m k h, pay11_apply]
  rfl

/-- A block's update of the sums of exponentials: to each node, the exponentials of the block's points that have its number. -/
theorem step_exp :
    k0_pay1 (F := Ideal) (k0_pay8 x4) (k0_pay15 (k0_pay7 x0) (k0_pay8 x4) (k0_pay10 x1 x5 x6 x10) (k0_pay12 x4 q) (k0_pay13 x2)
        x12 x13 x14 x15 x16 x17 x18 x19) acc (ix2 c m)
      = acc (ix2 c m) + ∑ k, (blockWeights x5 x6 x7 x8 x9 x10 x11 x12 x13 x14 x15 x16 x17 x18 x19 x20 x21).expAt
          (x4 (ix3 0 0 k)) m.val (fun j => q (ix2 j m)) (fun j => x0 (ix3 0 j k)) (fun j => x1 (ix3 0 j k)) (fun j => x2 (ix3 0 j m)) c := by
  rw [pay1_apply]
  refine congrArg _ (Finset.sum_congr rfl fun k _ => ?_)
  unfold Weights.expAt
  by_cases h : BitVec.ofNat 32 m.val = x4 (ix3 0 0 k)
  · rw [if_pos h, pay8_apply, if_pos h, mul_one,
      exp_at x0 x1 x2 x4 x5 x6 x7 x8 x9 x10 x11 x12 x13 x14 x15 x16 x17 x18 x19 x20 x21 q c m k h]
  · rw [if_neg h, pay8_apply, if_neg h, mul_zero]

/-- A block's update of the sums of weighted values. -/
theorem step_val :
    k0_pay2 (F := Ideal) (k0_pay8 x4) (k0_pay15 (k0_pay7 x0) (k0_pay8 x4) (k0_pay10 x1 x5 x6 x10) (k0_pay12 x4 q) (k0_pay13 x2)
        x12 x13 x14 x15 x16 x17 x18 x19)
        (k0_pay16 (k0_pay7 x0) (k0_pay8 x4) (k0_pay11 x1 x5 x6 x11) (k0_pay13 x2) x12 x13 x14 x15) acc (ix2 c m)
      = acc (ix2 c m) + ∑ k, (blockWeights x5 x6 x7 x8 x9 x10 x11 x12 x13 x14 x15 x16 x17 x18 x19 x20 x21).valAt
          (x4 (ix3 0 0 k)) m.val (fun j => q (ix2 j m)) (fun j => x0 (ix3 0 j k)) (fun j => x1 (ix3 0 j k)) (fun j => x2 (ix3 0 j m)) c := by
  rw [pay2_apply]
  refine congrArg _ (Finset.sum_congr rfl fun k _ => ?_)
  unfold Weights.valAt
  by_cases h : BitVec.ofNat 32 m.val = x4 (ix3 0 0 k)
  · rw [if_pos h, pay8_apply, if_pos h, mul_one,
      exp_at x0 x1 x2 x4 x5 x6 x7 x8 x9 x10 x11 x12 x13 x14 x15 x16 x17 x18 x19 x20 x21 q c m k h,
      val_at x0 x1 x2 x4 x5 x6 x7 x8 x9 x10 x11 x12 x13 x14 x15 x16 x17 x18 x19 x20 x21 c m k h]
  · rw [if_neg h, pay8_apply, if_neg h, mul_zero]

/-- The query table of a batch, as the body computes it. -/
theorem query_at (x3 : Vec Ideal S1x3x2048 .f32) :
    k0_pay4 (F := Ideal) x7 x3 x8 x9 (ix2 c m)
      = (blockWeights x5 x6 x7 x8 x9 x10 x11 x12 x13 x14 x15 x16 x17 x18 x19 x20 x21).query (fun j => x3 (ix3 0 j m)) c := by
  rw [pay4_apply]
  rfl

end

end Cert.Layer

end
-- ==== Proof.HostOps.lean ====
/-
  The host's gathers, scatters and reductions, read at an element.
-/
module

public import proofs.«01_k».proof.Proof.KernelBlock
public import Idealize.ShloMosaic.Lib.Routing.OpsPair
public import Idealize.ShloMosaic.Lib.ReduceAll
public import Idealize.ShloMosaic.Lib.Pointwise

@[expose] public section

set_option maxRecDepth 16384

noncomputable section

namespace Cert.Layer

open Idealize.ShloMosaic

/-- A gather along the last axis, batched over the two axes before it, at a start index that is `m`: the operand's entry at `m`. -/
theorem gather_last {α : Type} {B C M P : Nat} (d : GatherDims ⟨3, ![B, C, M]⟩ ⟨4, ![B, C, P, 1]⟩ ⟨3, ![B, C, P]⟩)
    (ho : d.offsetDims = []) (hc : d.collapsedSliceDims = [2]) (hob : d.operandBatchingDims = [0, 1])
    (hsb : d.startIndicesBatchingDims = [0, 1]) (hsm : d.startIndexMap = [2]) (hiv : d.indexVectorDim = 3)
    (hss : d.sliceSizes = ![1, 1, 1]) (X : (⟨3, ![B, C, M]⟩ : Shape).Idx → α) (idx : IVec ⟨4, ![B, C, P, 1]⟩ 32)
    (b : Fin B) (c : Fin C) (p : Fin P) (m : Fin M) (hm : (idx (ix4 b c p 0)).toInt = (m.val : Int)) :
    Host.gather d X idx (ix3 b c p) = X (ix3 b c m) := by
  obtain ⟨o, co, ob, sb, sm, iv, ss, wf⟩ := d
  dsimp only at ho hc hob hsb hsm hiv hss
  subst ho hc hob hsb hsm hiv hss
  show X _ = X _
  refine congrArg X (funext fun a => Fin.ext ?_)
  have hM := m.isLt
  match a with
  | ⟨0, _⟩ => show 0 + b.val + 0 = b.val; omega
  | ⟨1, _⟩ => show 0 + c.val + 0 = c.val; omega
  | ⟨2, _⟩ =>
    show min (idx _).toInt.toNat (M - 1) + 0 + 0 = m.val
    have e : ∀ i, i = ix4 b c p (0 : Fin 1) → min (idx i).toInt.toNat (M - 1) + 0 + 0 = m.val := by
      rintro i rfl
      rw [hm, Int.toNat_natCast]; omega
    refine e _ (funext fun a => Fin.ext ?_)
    match a with
    | ⟨0, _⟩ => rfl
    | ⟨1, _⟩ => rfl
    | ⟨2, _⟩ => rfl
    | ⟨3, _⟩ => rfl

/-- Where an update of a scatter of rows lands: in its own column, in the row its index names. -/
theorem scatter_lands {M C P : Nat} (d : ScatterDims ⟨2, ![M, C]⟩ ⟨2, ![P, 1]⟩ ⟨2, ![P, C]⟩)
    (hu : d.updateWindowDims = [1]) (hi : d.insertedWindowDims = [0]) (hs : d.scatterDimsToOperandDims = [0])
    (hiv : d.indexVectorDim = 1) (idx : IVec ⟨2, ![P, 1]⟩ 32) (p : Fin P) (c' c : Fin C) (m : Fin M) :
    d.resultIdx? (ix2 p c') idx = some (ix2 m c) ↔ (idx (ix2 p 0)).toInt = (m.val : Int) ∧ c' = c := by
  rw [Routing.resultIdx?_eq_some]
  obtain ⟨u, i, s, iv, wf⟩ := d
  dsimp only at hu hi hs hiv
  subst hu hi hs hiv
  have e0 : ScatterDims.start ⟨[1], [0], [0], 1, wf⟩ (ix2 p c') idx 0 = (idx (ix2 p 0)).toInt := by
    show (idx _).toInt = _
    refine congrArg (fun i => (idx i).toInt) (funext fun a => Fin.ext ?_)
    match a with
    | ⟨0, _⟩ => rfl
    | ⟨1, _⟩ => rfl
  constructor
  · intro h
    have h0 := h 0
    have h1 := h 1
    rw [e0] at h0
    refine ⟨?_, Fin.ext ?_⟩
    · have : (ScatterDims.window ⟨[1], [0], [0], 1, wf⟩ (ix2 p c') 0 : Int) = 0 := rfl
      rw [this, add_zero] at h0
      exact h0
    · have h1' : (0 : Int) + (c'.val : Int) = (c.val : Int) := h1
      omega
  · rintro ⟨h0, rfl⟩ a
    match a with
    | ⟨0, _⟩ =>
      show ScatterDims.start ⟨[1], [0], [0], 1, wf⟩ (ix2 p c') idx 0 + 0 = (m.val : Int)
      rw [e0, h0, add_zero]
    | ⟨1, _⟩ =>
      show (0 : Int) + (c'.val : Int) = (c'.val : Int)
      omega

/-- A scatter that adds rows, at an element: what was there plus the updates of the rows whose index names it. -/
theorem scatterAdd_rows {M C P : Nat} (d : ScatterDims ⟨2, ![M, C]⟩ ⟨2, ![P, 1]⟩ ⟨2, ![P, C]⟩)
    (hu : d.updateWindowDims = [1]) (hi : d.insertedWindowDims = [0]) (hs : d.scatterDimsToOperandDims = [0])
    (hiv : d.indexVectorDim = 1) (x : FVec Ideal ⟨2, ![M, C]⟩ .f32) (idx : IVec ⟨2, ![P, 1]⟩ 32) (upd : FVec Ideal ⟨2, ![P, C]⟩ .f32)
    (m : Fin M) (c : Fin C) :
    Host.scatterAdd d x idx upd (ix2 m c)
      = x (ix2 m c) + ∑ p, if (idx (ix2 p 0)).toInt = (m.val : Int) then upd (ix2 p c) else 0 := by
  unfold Host.scatterAdd
  rw [Ideal.hostScatterAdd_def]
  refine congrArg (x (ix2 m c) + ·) ?_
  rw [Finset.sum_filter, sum_idx2]
  refine Finset.sum_congr rfl fun p _ => ?_
  rw [Finset.sum_eq_single c]
  · simp only [scatter_lands d hu hi hs hiv, and_true]
  · intro c' _ hc'
    rw [if_neg]
    rw [scatter_lands d hu hi hs hiv]
    exact fun h => hc' h.2
  · intro h; exact absurd (Finset.mem_univ c) h

end Cert.Layer

end
-- ==== Proof.Reference.lean ====
/-
  The reference's value, read at an element: named by its parts, and each part at an index.
-/
module

public import proofs.«01_k».proof.Proof.HostOps
public import proofs.«01_k».proof.Proof.Gen.ReferenceIdeal.Run

@[expose] public section

set_option maxRecDepth 16384

noncomputable section

namespace Cert.Layer

open Idealize.ShloMosaic Idealize.ShloMosaic.TcCoe Idealize.SL.Sem Idealize.ShloMosaic.StableHlo
open Cert.ReferenceIdeal Cert.ReferenceIdeal.Gen

/-- The node a point belongs to, as the start index of a gather of features. -/
def spots128 (x4 : IVec S2x100000 32) : IVec S2x128x100000x1 32 :=
  shapeCast _ (select (cmpi .slt (broadcastInDim S2x128x100000 ![0, 1, 2] bcast_S2x1x100000_S2x128x100000_0_1_2 (broadcastInDim S2x1x100000 ![0, 2] bcast_S2x100000_S2x1x100000_0_2 x4)) (broadcastInDim S2x128x100000 ![] bcast_S_S2x128x100000 (constantI S_ 32 0#32))) (addi (broadcastInDim S2x128x100000 ![0, 1, 2] bcast_S2x1x100000_S2x128x100000_0_1_2 (broadcastInDim S2x1x100000 ![0, 2] bcast_S2x100000_S2x1x100000_0_2 x4)) (broadcastInDim S2x128x100000 ![] bcast_S_S2x128x100000 (constantI S_ 32 2048#32))) (broadcastInDim S2x128x100000 ![0, 1, 2] bcast_S2x1x100000_S2x128x100000_0_1_2 (broadcastInDim S2x1x100000 ![0, 2] bcast_S2x100000_S2x1x100000_0_2 x4))) shapeCasts_S2x128x100000_S2x128x100000x1

/-- The node a point belongs to, as the start index of a gather of coordinates. -/
def spots3 (x4 : IVec S2x100000 32) : IVec S2x3x100000x1 32 :=
  shapeCast _ (select (cmpi .slt (broadcastInDim S2x3x100000 ![0, 1, 2] bcast_S2x1x100000_S2x3x100000_0_1_2 (broadcastInDim S2x1x100000 ![0, 2] bcast_S2x100000_S2x1x100000_0_2 x4)) (broadcastInDim S2x3x100000 ![] bcast_S_S2x3x100000 (constantI S_ 32 0#32))) (addi (broadcastInDim S2x3x100000 ![0, 1, 2] bcast_S2x1x100000_S2x3x100000_0_1_2 (broadcastInDim S2x1x100000 ![0, 2] bcast_S2x100000_S2x1x100000_0_2 x4)) (broadcastInDim S2x3x100000 ![] bcast_S_S2x3x100000 (constantI S_ 32 2048#32))) (broadcastInDim S2x3x100000 ![0, 1, 2] bcast_S2x1x100000_S2x3x100000_0_1_2 (broadcastInDim S2x1x100000 ![0, 2] bcast_S2x100000_S2x1x100000_0_2 x4))) shapeCasts_S2x3x100000_S2x3x100000x1

/-- The features of the node each point belongs to. -/
def take128 (x4 : IVec S2x100000 32) (X : FVec Ideal S2x128x2048 .f32) : FVec Ideal S2x128x100000 .f32 :=
  select (Host.reduce IntOp.andi (andi (cmpi .sge (spots128 x4) (broadcastInDim S2x128x100000x1 ![] bcast_S_S2x128x100000x1 (constantI S_ 32 0#32))) (cmpi .sle (spots128 x4) (broadcastInDim S2x128x100000x1 ![0, 1, 2, 3] bcast_S1x1x1x1_S2x128x100000x1_0_1_2_3 (broadcastInDim S1x1x1x1 ![3] bcast_S1_S1x1x1x1_3 (constantI S1 32 2047#32))))) (constantI S_ 1 1#1) reducesTo_S2x128x100000x1_S2x128x100000_d3 h_S_) (Host.gather gather_S2x128x2048_S2x128x100000x1_S2x128x100000_n_2_01_01_2_3_111 X (spots128 x4)) (broadcastInDim S2x128x100000 ![] bcast_S_S2x128x100000 (constant S_ .f32 0x7FC00000#32))

/-- The coordinates of the node each point belongs to. -/
def take3 (x4 : IVec S2x100000 32) (X : FVec Ideal S2x3x2048 .f32) : FVec Ideal S2x3x100000 .f32 :=
  select (Host.reduce IntOp.andi (andi (cmpi .sge (spots3 x4) (broadcastInDim S2x3x100000x1 ![] bcast_S_S2x3x100000x1 (constantI S_ 32 0#32))) (cmpi .sle (spots3 x4) (broadcastInDim S2x3x100000x1 ![0, 1, 2, 3] bcast_S1x1x1x1_S2x3x100000x1_0_1_2_3 (broadcastInDim S1x1x1x1 ![3] bcast_S1_S1x1x1x1_3 (constantI S1 32 2047#32))))) (constantI S_ 1 1#1) reducesTo_S2x3x100000x1_S2x3x100000_d3 h_S_) (Host.gather gather_S2x3x2048_S2x3x100000x1_S2x3x100000_n_2_01_01_2_3_111 X (spots3 x4)) (broadcastInDim S2x3x100000 ![] bcast_S_S2x3x100000 (constant S_ .f32 0x7FC00000#32))

/-- The projected features of the points. -/
def project (x1 : FVec Ideal S2x3x100000 .f32) (x5 : FVec Ideal S128x3 .f32) (x6 : FVec Ideal S128 .f32) : FVec Ideal S2x128x100000 .f32 :=
  addf (transpose S2x128x100000 [0, 2, 1] (Host.dotGeneral dot_S2x3x100000_S128x3_S2x100000x128_1_1_02_0_n_n none x1 x5) transposes_S2x100000x128_S2x128x100000_0_2_1) (broadcastInDim S2x128x100000 ![0, 1, 2] bcast_S1x128x1_S2x128x100000_0_1_2 (broadcastInDim S1x128x1 ![1] bcast_S128_S1x128x1_1 x6))

/-- The queries of the nodes. -/
def queries (x3 : FVec Ideal S2x3x2048 .f32) (x7 : FVec Ideal S128x3 .f32) (x8 : FVec Ideal S128 .f32) (x9 : FVec Ideal S128x128 .f32) : FVec Ideal S2x128x2048 .f32 :=
  transpose S2x128x2048 [0, 2, 1] (Host.dotGeneral dot_S2x128x2048_S128x128_S2x2048x128_1_1_02_0_n_n none (addf (transpose S2x128x2048 [0, 2, 1] (Host.dotGeneral dot_S2x3x2048_S128x3_S2x2048x128_1_1_02_0_n_n none x3 x7) transposes_S2x2048x128_S2x128x2048_0_2_1) (broadcastInDim S2x128x2048 ![0, 1, 2] bcast_S1x128x1_S2x128x2048_0_1_2 (broadcastInDim S1x128x1 ![1] bcast_S128_S1x128x1_1 x8))) x9) transposes_S2x2048x128_S2x128x2048_0_2_1

/-- The position encodings of the points. -/
def positions (x0 : FVec Ideal S2x3x100000 .f32) (x2 : FVec Ideal S2x3x2048 .f32) (x4 : IVec S2x100000 32) (x12 : FVec Ideal S128x3 .f32) (x13 : FVec Ideal S128 .f32) (x14 : FVec Ideal S128x128 .f32) (x15 : FVec Ideal S128 .f32) : FVec Ideal S2x128x100000 .f32 :=
  addf (transpose S2x128x100000 [0, 2, 1] (Host.dotGeneral dot_S2x128x100000_S128x128_S2x100000x128_1_1_02_0_n_n none (maximumf (addf (transpose S2x128x100000 [0, 2, 1] (Host.dotGeneral dot_S2x3x100000_S128x3_S2x100000x128_1_1_02_0_n_n none (subf x0 (take3 x4 x2)) x12) transposes_S2x100000x128_S2x128x100000_0_2_1) (broadcastInDim S2x128x100000 ![0, 1, 2] bcast_S1x128x1_S2x128x100000_0_1_2 (broadcastInDim S1x128x1 ![1] bcast_S128_S1x128x1_1 x13))) (broadcastInDim S2x128x100000 ![] bcast_S_S2x128x100000 (constant S_ .f32 0x00000000#32))) x14) transposes_S2x100000x128_S2x128x100000_0_2_1) (broadcastInDim S2x128x100000 ![0, 1, 2] bcast_S1x128x1_S2x128x100000_0_1_2 (broadcastInDim S1x128x1 ![1] bcast_S128_S1x128x1_1 x15))

/-- The attention logits of the points. -/
def logits (x4 : IVec S2x100000 32) (Q : FVec Ideal S2x128x2048 .f32) (X : FVec Ideal S2x128x100000 .f32) (P : FVec Ideal S2x128x100000 .f32) (x10 : FVec Ideal S128x128 .f32) (x16 : FVec Ideal S128x128 .f32) (x17 : FVec Ideal S128 .f32) (x18 : FVec Ideal S128x128 .f32) (x19 : FVec Ideal S128 .f32) : FVec Ideal S2x128x100000 .f32 :=
  Host.divf (addf (transpose S2x128x100000 [0, 2, 1] (Host.dotGeneral dot_S2x128x100000_S128x128_S2x100000x128_1_1_02_0_n_n none (maximumf (addf (transpose S2x128x100000 [0, 2, 1] (Host.dotGeneral dot_S2x128x100000_S128x128_S2x100000x128_1_1_02_0_n_n none (addf (subf (take128 x4 Q) (transpose S2x128x100000 [0, 2, 1] (Host.dotGeneral dot_S2x128x100000_S128x128_S2x100000x128_1_1_02_0_n_n none X x10) transposes_S2x100000x128_S2x128x100000_0_2_1)) P) x16) transposes_S2x100000x128_S2x128x100000_0_2_1) (broadcastInDim S2x128x100000 ![0, 1, 2] bcast_S1x128x1_S2x128x100000_0_1_2 (broadcastInDim S1x128x1 ![1] bcast_S128_S1x128x1_1 x17))) (broadcastInDim S2x128x100000 ![] bcast_S_S2x128x100000 (constant S_ .f32 0x00000000#32))) x18) transposes_S2x100000x128_S2x128x100000_0_2_1) (broadcastInDim S2x128x100000 ![0, 1, 2] bcast_S1x128x1_S2x128x100000_0_1_2 (broadcastInDim S1x128x1 ![1] bcast_S128_S1x128x1_1 x19))) (broadcastInDim S2x128x100000 ![] bcast_S_S2x128x100000 (Host.sqrt (constant S_ .f32 0x43000000#32)))

/-- The greatest logit of each segment. -/
def maxima (x4 : IVec S2x100000 32) (L : FVec Ideal S2x128x100000 .f32) : FVec Ideal S2x128x2048 .f32 :=
  Host.reduce FloatOps.maximumf (select (broadcastInDim S2x128x2048x100000 ![0, 1, 2, 3] bcast_S2x1x2048x100000_S2x128x2048x100000_0_1_2_3 (cmpi .eq (broadcastInDim S2x1x2048x100000 ![0, 1, 2, 3] bcast_S2x1x1x100000_S2x1x2048x100000_0_1_2_3 (broadcastInDim S2x1x1x100000 ![0, 3] bcast_S2x100000_S2x1x1x100000_0_3 x4)) (broadcastInDim S2x1x2048x100000 ![0, 1, 2, 3] bcast_S1x1x2048x1_S2x1x2048x100000_0_1_2_3 (broadcastInDim S1x1x2048x1 ![2] bcast_S2048_S1x1x2048x1_2 (iotaInDim S2048 32 0))))) (broadcastInDim S2x128x2048x100000 ![0, 1, 2, 3] bcast_S2x128x1x100000_S2x128x2048x100000_0_1_2_3 (broadcastInDim S2x128x1x100000 ![0, 1, 3] bcast_S2x128x100000_S2x128x1x100000_0_1_3 L)) (broadcastInDim S2x128x2048x100000 ![] bcast_S_S2x128x2048x100000 (id (constant S_ .f32 0xFF800000#32)))) (constant S_ .f32 0xFF800000#32) reducesTo_S2x128x2048x100000_S2x128x2048_d3 h_S_

/-- The exponentials of the logits less their segment's greatest. -/
def exps (x4 : IVec S2x100000 32) (L : FVec Ideal S2x128x100000 .f32) : FVec Ideal S2x128x100000 .f32 :=
  Host.exp (subf L (take128 x4 (maxima x4 L)))

/-- The sums over the segments. -/
def sums (x4 : IVec S2x100000 32) (D : FVec Ideal S2x128x100000 .f32) : FVec Ideal S2x128x2048 .f32 :=
  concatenate S2x128x2048 0 [⟨S1x128x2048, (broadcastInDim S1x128x2048 ![1, 2] bcast_S128x2048_S1x128x2048_1_2 (transpose S128x2048 [1, 0] (Host.scatterAdd scatter_S2048x128_S100000x1_S100000x128_1_0_0_1 (broadcastInDim S2048x128 ![] bcast_S_S2048x128 (constant S_ .f32 0x00000000#32)) (broadcastInDim S100000x1 ![0] bcast_S100000_S100000x1_0 (shapeCast _ (extractStridedSlice S1x100000 ![0, 0] x4 slices_S2x100000_S1x100000_0_0) shapeCasts_S1x100000_S100000)) (transpose S100000x128 [1, 0] (shapeCast _ (extractStridedSlice S1x128x100000 ![0, 0, 0] D slices_S2x128x100000_S1x128x100000_0_0_0) shapeCasts_S1x128x100000_S128x100000) transposes_S128x100000_S100000x128_1_0)) transposes_S2048x128_S128x2048_1_0))⟩, ⟨S1x128x2048, (broadcastInDim S1x128x2048 ![1, 2] bcast_S128x2048_S1x128x2048_1_2 (transpose S128x2048 [1, 0] (Host.scatterAdd scatter_S2048x128_S100000x1_S100000x128_1_0_0_1 (broadcastInDim S2048x128 ![] bcast_S_S2048x128 (constant S_ .f32 0x00000000#32)) (broadcastInDim S100000x1 ![0] bcast_S100000_S100000x1_0 (shapeCast _ (extractStridedSlice S1x100000 ![1, 0] x4 slices_S2x100000_S1x100000_1_0) shapeCasts_S1x100000_S100000)) (transpose S100000x128 [1, 0] (shapeCast _ (extractStridedSlice S1x128x100000 ![1, 0, 0] D slices_S2x128x100000_S1x128x100000_1_0_0) shapeCasts_S1x128x100000_S128x100000) transposes_S128x100000_S100000x128_1_0)) transposes_S2048x128_S128x2048_1_0))⟩] concatenates_S1x128x2048_S1x128x2048_S2x128x2048_d0

/-- The weighted values of the points. -/
def weighted (x4 : IVec S2x100000 32) (E : FVec Ideal S2x128x100000 .f32) (X : FVec Ideal S2x128x100000 .f32) (P : FVec Ideal S2x128x100000 .f32) (x11 : FVec Ideal S128x128 .f32) : FVec Ideal S2x128x100000 .f32 :=
  mulf (Host.divf E (take128 x4 (sums x4 E))) (addf (transpose S2x128x100000 [0, 2, 1] (Host.dotGeneral dot_S2x128x100000_S128x128_S2x100000x128_1_1_02_0_n_n none X x11) transposes_S2x100000x128_S2x128x100000_0_2_1) P)

/-- The result: the segment sums of the weighted values, projected, plus the nodes' features. -/
def result (x4 : IVec S2x100000 32) (D : FVec Ideal S2x128x100000 .f32) (x3 : FVec Ideal S2x3x2048 .f32) (x20 : FVec Ideal S3x128 .f32) (x21 : FVec Ideal S3 .f32) : FVec Ideal S2x3x2048 .f32 :=
  addf (addf (transpose S2x3x2048 [0, 2, 1] (Host.dotGeneral dot_S2x128x2048_S3x128_S2x2048x3_1_1_02_0_n_n none (sums x4 D) x20) transposes_S2x2048x3_S2x3x2048_0_2_1) (broadcastInDim S2x3x2048 ![0, 1, 2] bcast_S1x3x1_S2x3x2048_0_1_2 (broadcastInDim S1x3x1 ![1] bcast_S3_S1x3x1_1 x21))) x3

/-- The weights as the reference's arrays hold them. -/
def arrayWeights (x5 : FVec Ideal S128x3 .f32) (x6 : FVec Ideal S128 .f32) (x7 : FVec Ideal S128x3 .f32) (x8 : FVec Ideal S128 .f32)
    (x9 x10 x11 : FVec Ideal S128x128 .f32) (x12 : FVec Ideal S128x3 .f32) (x13 : FVec Ideal S128 .f32)
    (x14 : FVec Ideal S128x128 .f32) (x15 : FVec Ideal S128 .f32) (x16 : FVec Ideal S128x128 .f32) (x17 : FVec Ideal S128 .f32)
    (x18 : FVec Ideal S128x128 .f32) (x19 : FVec Ideal S128 .f32) (x20 : FVec Ideal S3x128 .f32) (x21 : FVec Ideal S3 .f32) : Weights where
  W10 i j := x5 (ix2 i j)
  b10 i := x6 (ix1 i)
  W11 i j := x7 (ix2 i j)
  b11 i := x8 (ix1 i)
  Wq i j := x9 (ix2 i j)
  Wk i j := x10 (ix2 i j)
  Wv i j := x11 (ix2 i j)
  Wd1 i j := x12 (ix2 i j)
  bd1 i := x13 (ix1 i)
  Wd2 i j := x14 (ix2 i j)
  bd2 i := x15 (ix1 i)
  Wg1 i j := x16 (ix2 i j)
  bg1 i := x17 (ix1 i)
  Wg2 i j := x18 (ix2 i j)
  bg2 i := x19 (ix1 i)
  W2 i j := x20 (ix2 i j)
  b2 i := x21 (ix1 i)

theorem lt_pow (m : Fin 2048) : (BitVec.ofNat 32 m.val).toNat = m.val := by
  have := m.isLt
  simp only [BitVec.toNat_ofNat]; omega

theorem toInt_node (m : Fin 2048) : (BitVec.ofNat 32 m.val).toInt = (m.val : Int) := by
  have := m.isLt
  rw [BitVec.toInt_eq_toNat_of_lt (by rw [lt_pow]; omega), lt_pow]

theorem spots128_at (x4 : IVec S2x100000 32) (b : Fin 2) (c : Fin 128) (p : Fin 100000) (m : Fin 2048)
    (h : x4 (ix2 b p) = BitVec.ofNat 32 m.val) : spots128 x4 (ix4 b c p 0) = BitVec.ofNat 32 m.val := by
  unfold spots128
  pointwise
  rw [h]
  exact Routing.wrap_of_lt _ _ (by rw [lt_pow]; have := m.isLt; omega)

theorem spots3_at (x4 : IVec S2x100000 32) (b : Fin 2) (c : Fin 3) (p : Fin 100000) (m : Fin 2048)
    (h : x4 (ix2 b p) = BitVec.ofNat 32 m.val) : spots3 x4 (ix4 b c p 0) = BitVec.ofNat 32 m.val := by
  unfold spots3
  pointwise
  rw [h]
  exact Routing.wrap_of_lt _ _ (by rw [lt_pow]; have := m.isLt; omega)

/-- A node's index lies between its bounds. -/
theorem in_bounds (m : Fin 2048) :
    IntOp.andi (IntOp.cmpi .sge (BitVec.ofNat 32 m.val) 0#32) (IntOp.cmpi .sle (BitVec.ofNat 32 m.val) 2047#32) = 1#1 := by
  have := m.isLt
  have h1 : IntOp.cmpi .sge (BitVec.ofNat 32 m.val) 0#32 = 1#1 :=
    (Predicate.sge_iff_toNat (by rw [lt_pow]; omega) (by decide)).2 (by rw [lt_pow]; exact Nat.zero_le _)
  have h2 : IntOp.cmpi .sle (BitVec.ofNat 32 m.val) 2047#32 = 1#1 :=
    (Predicate.sle_iff_toNat (by rw [lt_pow]; omega) (by decide)).2 (by rw [lt_pow]; show m.val ≤ 2047; omega)
  rw [h1, h2]; rfl

theorem take128_at (x4 : IVec S2x100000 32) (X : FVec Ideal S2x128x2048 .f32) (b : Fin 2) (c : Fin 128) (p : Fin 100000) (m : Fin 2048)
    (h : x4 (ix2 b p) = BitVec.ofNat 32 m.val) : take128 x4 X (ix3 b c p) = X (ix3 b c m) := by
  have hs := spots128_at x4 b c p m h
  have hg := gather_last gather_S2x128x2048_S2x128x100000x1_S2x128x100000_n_2_01_01_2_3_111 rfl rfl rfl rfl rfl rfl rfl X
    (spots128 x4) b c p m (by rw [hs, toInt_node])
  unfold take128
  pointwise
  rw [hg]
  simp only [Finset.univ_unique, Finset.fold_singleton, Fin.default_eq_zero, Fin.isValue]
  rw [hs, in_bounds m]
  rfl

theorem take3_at (x4 : IVec S2x100000 32) (X : FVec Ideal S2x3x2048 .f32) (b : Fin 2) (c : Fin 3) (p : Fin 100000) (m : Fin 2048)
    (h : x4 (ix2 b p) = BitVec.ofNat 32 m.val) : take3 x4 X (ix3 b c p) = X (ix3 b c m) := by
  have hs := spots3_at x4 b c p m h
  have hg := gather_last gather_S2x3x2048_S2x3x100000x1_S2x3x100000_n_2_01_01_2_3_111 rfl rfl rfl rfl rfl rfl rfl X
    (spots3 x4) b c p m (by rw [hs, toInt_node])
  unfold take3
  pointwise
  rw [hg]
  simp only [Finset.univ_unique, Finset.fold_singleton, Fin.default_eq_zero, Fin.isValue]
  rw [hs, in_bounds m]
  rfl

/-- A choice by equality of two words. -/
theorem select_eq_ite {α : Type} (x y : BitVec 32) (a b : α) : Scalar.select (IntOp.cmpi .eq x y) a b = if x = y then a else b := by
  by_cases h : x = y
  · subst h; rw [if_pos rfl, IntOp.cmpi_eq_self]; rfl
  · rw [if_neg h]
    have h' : (x == y) = false := by simpa using h
    have : IntOp.cmpi .eq x y = 0#1 := by simp [IntOp.cmpi, h']
    rw [this]
    rfl

theorem maxima_at (x4 : IVec S2x100000 32) (L : FVec Ideal S2x128x100000 .f32) (b : Fin 2) (c : Fin 128) (m : Fin 2048) :
    maxima x4 L (ix3 b c m)
      = Finset.univ.fold max ⊥ (fun p : Fin 100000 => if x4 (ix2 b p) = BitVec.ofNat 32 m.val then L (ix3 b c p) else ⊥) := by
  unfold maxima
  pointwise
  have hb : Ideal.ofBits .f32 0xFF800000#32 = ⊥ := by simp [Ideal.ofBits, Ideal.ieee]
  have h1 : id (constant (F := Ideal) S_ .f32 0xFF800000#32) ix0 = ⊥ := hb
  rw [h1, hb]
  refine congrArg (fun f => Finset.fold max ⊥ f Finset.univ) (funext fun p => ?_)
  exact select_eq_ite _ _ _ _

/-- A word is a node's index when its signed value is. -/
theorem toInt_iff (x : BitVec 32) (m : Fin 2048) : x.toInt = (m.val : Int) ↔ x = BitVec.ofNat 32 m.val := by
  rw [← toInt_node m]
  exact ⟨BitVec.eq_of_toInt_eq, fun h => h ▸ rfl⟩

theorem sums_at (x4 : IVec S2x100000 32) (D : FVec Ideal S2x128x100000 .f32) (b : Fin 2) (c : Fin 128) (m : Fin 2048) :
    sums x4 D (ix3 b c m) = ∑ p : Fin 100000, if x4 (ix2 b p) = BitVec.ofNat 32 m.val then D (ix3 b c p) else 0 := by
  unfold sums
  pointwise
  have h0 : ∀ i, broadcastInDim S2048x128 ![] bcast_S_S2048x128 (constant (F := Ideal) S_ .f32 0#32) i = 0 := by
    intro i
    pointwise
    try simp [Ideal.ofBits, Ideal.ieee]
  simp only [scatterAdd_rows scatter_S2048x128_S100000x1_S100000x128_1_0_0_1 rfl rfl rfl rfl, h0, zero_add, toInt_iff]
  split_ifs with hb
  · obtain rfl : b = 0 := Fin.ext (by show b.val = 0; omega)
    refine Finset.sum_congr rfl fun p _ => ?_
    pointwise
  · obtain rfl : b = 1 := Fin.ext (by show b.val = 1; have := b.isLt; omega)
    refine Finset.sum_congr rfl fun p _ => ?_
    pointwise

theorem project_at (x1 : FVec Ideal S2x3x100000 .f32) (x5 : FVec Ideal S128x3 .f32) (x6 : FVec Ideal S128 .f32) (b : Fin 2) (c : Fin 128) (p : Fin 100000) :
    project x1 x5 x6 (ix3 b c p) = lin (fun i j => x5 (ix2 i j)) (fun i => x6 (ix1 i)) (fun j => x1 (ix3 b j p)) c := by
  unfold project
  pointwise
  simp only [lin, mul_comm]

theorem queries_at (x3 : FVec Ideal S2x3x2048 .f32) (x7 : FVec Ideal S128x3 .f32) (x8 : FVec Ideal S128 .f32) (x9 : FVec Ideal S128x128 .f32) (b : Fin 2) (c : Fin 128) (m : Fin 2048) :
    queries x3 x7 x8 x9 (ix3 b c m) = mul (fun i j => x9 (ix2 i j)) (lin (fun i j => x7 (ix2 i j)) (fun i => x8 (ix1 i)) (fun j => x3 (ix3 b j m))) c := by
  unfold queries
  pointwise
  simp only [lin, mul, mul_comm]

/-- A quotient, read at an index. -/
theorem divf_at {s : Shape} (A B : FVec Ideal s .f32) (i : s.Idx) : Host.divf A B i = Ideal.div (A i) (B i) := rfl

/-- A product, read at an index. -/
theorem mulf_at {s : Shape} (A B : FVec Ideal s .f32) (i : s.Idx) : mulf A B i = A i * B i := rfl

theorem addf_at {s : Shape} (A B : FVec Ideal s .f32) (i : s.Idx) : addf A B i = A i + B i := rfl

theorem subf_at {s : Shape} (A B : FVec Ideal s .f32) (i : s.Idx) : subf A B i = A i - B i := rfl

theorem maximumf_at {s : Shape} (A B : FVec Ideal s .f32) (i : s.Idx) : maximumf A B i = max (A i) (B i) := rfl

theorem zeros_at (i : S2x128x100000.Idx) : broadcastInDim S2x128x100000 ![] bcast_S_S2x128x100000 (constant (F := Ideal) S_ .f32 0x00000000#32) i = 0 := by
  pointwise
  try simp [Ideal.ofBits, Ideal.ieee]

/-- A product with a square weight. -/
theorem mul_at (A : FVec Ideal S2x128x100000 .f32) (W : FVec Ideal S128x128 .f32) (b : Fin 2) (c : Fin 128) (p : Fin 100000) :
    transpose S2x128x100000 [0, 2, 1] (Host.dotGeneral dot_S2x128x100000_S128x128_S2x100000x128_1_1_02_0_n_n none A W) transposes_S2x100000x128_S2x128x100000_0_2_1 (ix3 b c p) = mul (fun i j => W (ix2 i j)) (fun j => A (ix3 b j p)) c := by
  pointwise
  simp only [mul, mul_comm]

/-- A bias along the channels. -/
theorem bias_at (v : FVec Ideal S128 .f32) (b : Fin 2) (c : Fin 128) (p : Fin 100000) : broadcastInDim S2x128x100000 ![0, 1, 2] bcast_S1x128x1_S2x128x100000_0_1_2 (broadcastInDim S1x128x1 ![1] bcast_S128_S1x128x1_1 v) (ix3 b c p) = v (ix1 c) := by
  pointwise

/-- A convolution of width one with a square weight. -/
theorem dense_at (A : FVec Ideal S2x128x100000 .f32) (W : FVec Ideal S128x128 .f32) (v : FVec Ideal S128 .f32) (b : Fin 2) (c : Fin 128) (p : Fin 100000) :
    addf (transpose S2x128x100000 [0, 2, 1] (Host.dotGeneral dot_S2x128x100000_S128x128_S2x100000x128_1_1_02_0_n_n none A W) transposes_S2x100000x128_S2x128x100000_0_2_1) (broadcastInDim S2x128x100000 ![0, 1, 2] bcast_S1x128x1_S2x128x100000_0_1_2 (broadcastInDim S1x128x1 ![1] bcast_S128_S1x128x1_1 v)) (ix3 b c p)
      = lin (fun i j => W (ix2 i j)) (fun i => v (ix1 i)) (fun j => A (ix3 b j p)) c := by
  rw [addf_at, mul_at, bias_at]
  rfl

theorem positions_at (x0 : FVec Ideal S2x3x100000 .f32) (x2 : FVec Ideal S2x3x2048 .f32) (x4 : IVec S2x100000 32) (x12 : FVec Ideal S128x3 .f32) (x13 : FVec Ideal S128 .f32) (x14 : FVec Ideal S128x128 .f32) (x15 : FVec Ideal S128 .f32)
    (b : Fin 2) (c : Fin 128) (p : Fin 100000) (m : Fin 2048) (h : x4 (ix2 b p) = BitVec.ofNat 32 m.val) :
    positions x0 x2 x4 x12 x13 x14 x15 (ix3 b c p)
      = lin (fun i j => x14 (ix2 i j)) (fun i => x15 (ix1 i)) (relu (lin (fun i j => x12 (ix2 i j)) (fun i => x13 (ix1 i))
          fun j => x0 (ix3 b j p) - x2 (ix3 b j m))) c := by
  have hT : ∀ j, take3 x4 x2 (ix3 b j p) = x2 (ix3 b j m) := fun j => take3_at _ _ b j p m h
  unfold positions
  generalize take3 x4 x2 = T at hT ⊢
  pointwise
  simp only [hT]
  have hz : Ideal.ofBits .f32 0x00000000#32 = 0 := by simp [Ideal.ofBits, Ideal.ieee]
  simp only [hz, lin, relu, mul_comm]

theorem sqrt_width : Host.sqrt (constant (F := Ideal) S_ .f32 0x43000000#32) ix0 = ((Real.sqrt 128 : ℝ) : EReal) := by
  have h : Ideal.ofBits .f32 0x43000000#32 = ((128 : ℝ) : EReal) := by
    simp [Ideal.ofBits, Ideal.ieee, -EReal.coe_mul]
    norm_num
  show Ideal.sqrt (Ideal.ofBits .f32 0x43000000#32) = _
  rw [h, Ideal.sqrt_coe, if_neg (by norm_num)]

theorem logits_at (x4 : IVec S2x100000 32) (Q : FVec Ideal S2x128x2048 .f32) (X : FVec Ideal S2x128x100000 .f32) (P : FVec Ideal S2x128x100000 .f32) (x10 : FVec Ideal S128x128 .f32) (x16 : FVec Ideal S128x128 .f32) (x17 : FVec Ideal S128 .f32) (x18 : FVec Ideal S128x128 .f32) (x19 : FVec Ideal S128 .f32)
    (b : Fin 2) (c : Fin 128) (p : Fin 100000) (m : Fin 2048) (h : x4 (ix2 b p) = BitVec.ofNat 32 m.val) :
    logits x4 Q X P x10 x16 x17 x18 x19 (ix3 b c p)
      = lin (fun i j => x18 (ix2 i j)) (fun i => x19 (ix1 i)) (relu (lin (fun i j => x16 (ix2 i j)) (fun i => x17 (ix1 i))
          fun j => Q (ix3 b j m) - mul (fun i j => x10 (ix2 i j)) (fun k => X (ix3 b k p)) j + P (ix3 b j p))) c
        * (((Real.sqrt 128)⁻¹ : ℝ) : EReal) := by
  have hT : ∀ j, take128 x4 Q (ix3 b j p) = Q (ix3 b j m) := fun j => take128_at _ _ b j p m h
  unfold logits
  generalize take128 x4 Q = T at hT ⊢
  have hS := sqrt_width
  generalize Host.sqrt (constant (F := Ideal) S_ .f32 0x43000000#32) = S at hS ⊢
  have hS' : broadcastInDim S2x128x100000 ![] bcast_S_S2x128x100000 S (ix3 b c p) = ((Real.sqrt 128 : ℝ) : EReal) := by
    pointwise
    exact hS
  rw [divf_at, dense_at, hS', div_coe_of_ne (by positivity)]
  refine congrArg (fun f => lin (fun i j => x18 (ix2 i j)) (fun i => x19 (ix1 i)) f c * (((Real.sqrt 128)⁻¹ : ℝ) : EReal)) (funext fun j => ?_)
  rw [maximumf_at, dense_at, zeros_at]
  refine congrArg (fun f => max (lin (fun i j => x16 (ix2 i j)) (fun i => x17 (ix1 i)) f j) 0) (funext fun k => ?_)
  rw [addf_at, subf_at, hT, mul_at]

theorem exps_at (x4 : IVec S2x100000 32) (L : FVec Ideal S2x128x100000 .f32)
    (b : Fin 2) (c : Fin 128) (p : Fin 100000) (m : Fin 2048) (h : x4 (ix2 b p) = BitVec.ofNat 32 m.val) :
    exps x4 L (ix3 b c p) = Ideal.exp (L (ix3 b c p)
      - Finset.univ.fold max ⊥ (fun q : Fin 100000 => if x4 (ix2 b q) = BitVec.ofNat 32 m.val then L (ix3 b c q) else ⊥)) := by
  have hT := take128_at x4 (maxima x4 L) b c p m h
  rw [maxima_at] at hT
  unfold exps
  generalize take128 x4 (maxima x4 L) = T at hT ⊢
  pointwise
  rw [hT]

theorem weighted_at (x4 : IVec S2x100000 32) (E : FVec Ideal S2x128x100000 .f32) (X : FVec Ideal S2x128x100000 .f32) (P : FVec Ideal S2x128x100000 .f32) (x11 : FVec Ideal S128x128 .f32)
    (b : Fin 2) (c : Fin 128) (p : Fin 100000) (m : Fin 2048) (h : x4 (ix2 b p) = BitVec.ofNat 32 m.val) :
    weighted x4 E X P x11 (ix3 b c p)
      = Ideal.div (E (ix3 b c p)) (∑ q : Fin 100000, if x4 (ix2 b q) = BitVec.ofNat 32 m.val then E (ix3 b c q) else 0)
        * (mul (fun i j => x11 (ix2 i j)) (fun k => X (ix3 b k p)) c + P (ix3 b c p)) := by
  have hT := take128_at x4 (sums x4 E) b c p m h
  rw [sums_at] at hT
  unfold weighted
  generalize take128 x4 (sums x4 E) = T at hT ⊢
  rw [mulf_at, divf_at, hT]
  pointwise
  simp only [mul, mul_comm]

theorem result_at (x4 : IVec S2x100000 32) (D : FVec Ideal S2x128x100000 .f32) (x3 : FVec Ideal S2x3x2048 .f32) (x20 : FVec Ideal S3x128 .f32) (x21 : FVec Ideal S3 .f32)
    (b : Fin 2) (i : Fin 3) (m : Fin 2048) :
    result x4 D x3 x20 x21 (ix3 b i m)
      = lin (fun i j => x20 (ix2 i j)) (fun i => x21 (ix1 i))
          (fun c => ∑ p : Fin 100000, if x4 (ix2 b p) = BitVec.ofNat 32 m.val then D (ix3 b c p) else 0) i + x3 (ix3 b i m) := by
  have hT : ∀ c, sums x4 D (ix3 b c m) = _ := fun c => sums_at x4 D b c m
  unfold result
  generalize sums x4 D = T at hT ⊢
  pointwise
  simp only [hT, lin, mul_comm]

end Cert.Layer
-- ==== Proof.KernelCase.lean ====
/-
  What one grid point leaves in the running sums and in the result block, as the block's payloads of its inputs and of
  what the point before left.
-/
module

public import proofs.«01_k».proof.Proof.Reference

@[expose] public section

set_option maxRecDepth 16384

noncomputable section

namespace Cert.Layer

open Idealize.ShloMosaic Idealize.ShloMosaic.TcCoe Idealize.ShloMosaic.Tactic Idealize.SL.Sem
open Cert.KernelIdeal Cert.KernelIdeal.Gen

theorem hz2 : (![0, 0] : Fin 2 → Nat) = fun _ => 0 := by decide
theorem hz3 : (![0, 0, 0] : Fin 3 → Nat) = fun _ => 0 := by decide

section

variable (c : Dev nD) (i : grid0.Coords) (arg2 : Memref sig .tc .vmem S1x3x2048 .f32) (harg2 : arg2.IsWhole) (arg3 : Memref sig .tc .vmem S1x3x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x2048 .i32) (harg6 : arg6.IsWhole) (arg7 : Memref sig .tc .vmem S128x3 .f32) (harg7 : arg7.IsWhole) (arg8 : Memref sig .tc .vmem S128x1 .f32) (harg8 : arg8.IsWhole) (arg9 : Memref sig .tc .vmem S128x3 .f32) (harg9 : arg9.IsWhole) (arg10 : Memref sig .tc .vmem S128x1 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x3 .f32) (harg14 : arg14.IsWhole) (arg15 : Memref sig .tc .vmem S128x1 .f32) (harg15 : arg15.IsWhole) (arg16 : Memref sig .tc .vmem S128x128 .f32) (harg16 : arg16.IsWhole) (arg17 : Memref sig .tc .vmem S128x1 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x128 .f32) (harg20 : arg20.IsWhole) (arg21 : Memref sig .tc .vmem S128x1 .f32) (harg21 : arg21.IsWhole) (arg22 : Memref sig .tc .vmem S3x128 .f32) (harg22 : arg22.IsWhole) (arg23 : Memref sig .tc .vmem S3x1 .f32) (harg23 : arg23.IsWhole) (arg24 : Memref sig .tc .vmem S1x3x2048 .f32) (harg24 : arg24.IsWhole) (arg25 : Memref sig .tc .vmem S128x2048 .f32) (harg25 : arg25.IsWhole) (arg26 : Memref sig .tc .vmem S128x2048 .f32) (harg26 : arg26.IsWhole) (arg27 : Memref sig .tc .vmem S128x2048 .f32) (harg27 : arg27.IsWhole)
    (x0 : Vec Ideal S1x3x2048 .f32) (x1 : Vec Ideal S1x3x2048 .f32) (x2 : Vec Ideal S1x3x2048 .f32) (x3 : Vec Ideal S1x3x2048 .f32) (x4 : Vec Ideal S1x1x2048 .i32) (x5 : Vec Ideal S128x3 .f32) (x6 : Vec Ideal S128x1 .f32) (x7 : Vec Ideal S128x3 .f32) (x8 : Vec Ideal S128x1 .f32) (x9 : Vec Ideal S128x128 .f32) (x10 : Vec Ideal S128x128 .f32) (x11 : Vec Ideal S128x128 .f32) (x12 : Vec Ideal S128x3 .f32) (x13 : Vec Ideal S128x1 .f32) (x14 : Vec Ideal S128x128 .f32) (x15 : Vec Ideal S128x1 .f32) (x16 : Vec Ideal S128x128 .f32) (x17 : Vec Ideal S128x1 .f32) (x18 : Vec Ideal S128x128 .f32) (x19 : Vec Ideal S128x1 .f32) (x20 : Vec Ideal S3x128 .f32) (x21 : Vec Ideal S3x1 .f32) (xs0 : Vec Ideal S128x2048 .f32) (xs1 : Vec Ideal S128x2048 .f32) (xs2 : Vec Ideal S128x2048 .f32)

/-- A middle point adds its block's exponentials. -/
theorem expsum_mid (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2
      = k0_pay1 (k0_pay8 x4) (k0_pay15 (k0_pay7 x0) (k0_pay8 x4) (k0_pay10 x1 x5 x6 x10) (k0_pay12 x4 xs0) (k0_pay13 x2) x12 x13 x14 x15 x16 x17 x18 x19) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- A middle point adds its block's weighted values. -/
theorem valsum_mid (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2
      = k0_pay2 (k0_pay8 x4) (k0_pay15 (k0_pay7 x0) (k0_pay8 x4) (k0_pay10 x1 x5 x6 x10) (k0_pay12 x4 xs0) (k0_pay13 x2) x12 x13 x14 x15 x16 x17 x18 x19) (k0_pay16 (k0_pay7 x0) (k0_pay8 x4) (k0_pay11 x1 x5 x6 x11) (k0_pay13 x2) x12 x13 x14 x15) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- The last point adds its block's exponentials. -/
theorem expsum_last (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2
      = k0_pay1 (k0_pay8 x4) (k0_pay15 (k0_pay7 x0) (k0_pay8 x4) (k0_pay10 x1 x5 x6 x10) (k0_pay12 x4 xs0) (k0_pay13 x2) x12 x13 x14 x15 x16 x17 x18 x19) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- The last point adds its block's weighted values. -/
theorem valsum_last (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2
      = k0_pay2 (k0_pay8 x4) (k0_pay15 (k0_pay7 x0) (k0_pay8 x4) (k0_pay10 x1 x5 x6 x10) (k0_pay12 x4 xs0) (k0_pay13 x2) x12 x13 x14 x15 x16 x17 x18 x19) (k0_pay16 (k0_pay7 x0) (k0_pay8 x4) (k0_pay11 x1 x5 x6 x11) (k0_pay13 x2) x12 x13 x14 x15) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- The last point writes the result from the two sums. -/
theorem out_last (hc0 : ¬cond0_0 i) (hc1 : cond0_1 i) :
    out0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2
      = k0_pay3 (k0_pay1 (k0_pay8 x4) (k0_pay15 (k0_pay7 x0) (k0_pay8 x4) (k0_pay10 x1 x5 x6 x10) (k0_pay12 x4 xs0) (k0_pay13 x2) x12 x13 x14 x15 x16 x17 x18 x19) xs1) (k0_pay2 (k0_pay8 x4) (k0_pay15 (k0_pay7 x0) (k0_pay8 x4) (k0_pay10 x1 x5 x6 x10) (k0_pay12 x4 xs0) (k0_pay13 x2) x12 x13 x14 x15 x16 x17 x18 x19) (k0_pay16 (k0_pay7 x0) (k0_pay8 x4) (k0_pay11 x1 x5 x6 x11) (k0_pay13 x2) x12 x13 x14 x15) xs2) x20 x21 x3 := by
  unfold out0_C_22
  rw [View.read_writes_eq_canon _ _ _ (cover0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 xs0 xs1 xs2)]
  unfold kernelRun0_C
  dsimp only
  sl_unfold_words
  rw [View.canon_unit_zero hz3]
  simp only [View.readCov_unit_zero (S := S128x2048) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- The first point computes the queries. -/
theorem query_first (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21
      = k0_pay4 x7 x3 x8 x9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- The first point starts the sum of exponentials with its block's. -/
theorem expsum_first (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21
      = k0_pay1 (k0_pay8 x4) (k0_pay15 (k0_pay7 x0) (k0_pay8 x4) (k0_pay10 x1 x5 x6 x10) (k0_pay12 x4 (k0_pay4 x7 x3 x8 x9)) (k0_pay13 x2) x12 x13 x14 x15 x16 x17 x18 x19) (k0_pay5 (F := Ideal)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21)]
  unfold kernelRun0_A
  dsimp only
  sl_unfold_words
  rw [View.canon_cons_unit_zero (S := S128x2048) hz2]
  simp only [View.readCov_unit_zero (S := S128x2048) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

/-- The first point starts the sum of weighted values with its block's. -/
theorem valsum_first (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21
      = k0_pay2 (k0_pay8 x4) (k0_pay15 (k0_pay7 x0) (k0_pay8 x4) (k0_pay10 x1 x5 x6 x10) (k0_pay12 x4 (k0_pay4 x7 x3 x8 x9)) (k0_pay13 x2) x12 x13 x14 x15 x16 x17 x18 x19) (k0_pay16 (k0_pay7 x0) (k0_pay8 x4) (k0_pay11 x1 x5 x6 x11) (k0_pay13 x2) x12 x13 x14 x15) (k0_pay6 (F := Ideal)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21)]
  unfold kernelRun0_A
  dsimp only
  sl_unfold_words
  rw [View.canon_cons_unit_zero (S := S128x2048) hz2]
  simp only [View.readCov_unit_zero (S := S128x2048) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg17.read_unread, harg18.read_unread,
    harg19.read_unread, harg20.read_unread, harg21.read_unread, harg22.read_unread, harg23.read_unread, harg25.read_unread,
    harg26.read_unread, harg27.read_unread, View.ld_unit_zero (S := S128x2048) hz2, View.ld_unit_zero (S := S128x128) hz2,
    View.ld_unit_zero (S := S128x3) hz2, View.ld_unit_zero (S := S128x1) hz2, View.ld_unit_zero (S := S3x128) hz2,
    View.ld_unit_zero (S := S3x1) hz2, View.ld_unit_zero (S := S1x3x2048) hz3, View.ld_unit_zero (S := S1x1x2048) hz3]

end

end Cert.Layer
-- ==== Proof.KernelRead.lean ====
module

public import proofs.«01_k».proof.Proof.KernelCase
public import Idealize.ShloMosaic.Lib.KernelVsHost
public import Idealize.ShloMosaic.Lib.Pipeline.ValueKit
public import Idealize.ShloMosaic.Lib.Claim
public import Idealize.ShloMosaic.Lib.Pointwise

/-!
# What the kernel's windows hold

At grid point `t` the kernel works on batch entry `t / 49` and on the points `2048 * (t % 49)` onwards. Each window is read
here as a part of the argument it comes from.
-/

@[expose] public section

set_option maxRecDepth 16384

noncomputable section

namespace Cert.Layer

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Which block of its array each window names at a grid point. -/
theorem block_index : ∀ t : Fin cfg0.N, win0_0.index t = ![t.val / 49, 0, t.val % 49] ∧ win0_1.index t = ![t.val / 49, 0, t.val % 49]
    ∧ win0_2.index t = ![t.val / 49, 0, 0] ∧ win0_3.index t = ![t.val / 49, 0, 0] ∧ win0_4.index t = ![t.val / 49, 0, t.val % 49]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0]
    ∧ win0_21.index t = ![0, 0] :=
  (by decide +kernel : ∀ t : Fin grid0.N, _)

/-- The points are followed by 352 columns of padding: inside, the padded array is the array. -/
theorem points_padded (x : Vec Ideal S2x3x100000 .f32) (v : Vec Ideal S_ .f32) (b : Fin 2) (i : Fin 3) (p : Fin 100352) (h : p.val < 100000) :
    pad S2x3x100352 ![0, 0, 0] ![0, 0, 352] ![0, 0, 0] x v pads_S2x3x100000_S2x3x100352_000_000_03520 h_S_ (ix3 b i p) = x (ix3 b i ⟨p.val, h⟩) := by
  refine pad_apply_of_inside _ _ _ _ _ _ _ _ _ fun a => ?_
  match a with
  | ⟨0, _⟩ => simp
  | ⟨1, _⟩ => simp
  | ⟨2, _⟩ => simp

/-- Inside, the padded indices are the indices; in the padding they are the padding's word. -/
theorem indices_padded (x : Vec Ideal S2x100000 .i32) (v : Vec Ideal S_ .i32) (b : Fin 2) (p : Fin 100352) :
    pad S2x100352 ![0, 0] ![0, 352] ![0, 0] x v pads_S2x100000_S2x100352_000_03520 h_S_ (ix2 b p) =
      if h : p.val < 100000 then x (ix2 b ⟨p.val, h⟩) else v (Shape.Idx.first h_S_) := by
  split
  case isTrue h =>
    refine pad_apply_of_inside _ _ _ _ _ _ _ _ _ fun a => ?_
    match a with
    | ⟨0, _⟩ => simp
    | ⟨1, _⟩ => simp
  case isFalse h =>
    refine pad_apply_of_not_inside _ _ _ _ _ _ _ _ (⟨1, by decide⟩ : Fin S2x100000.rank) ?_
    simp
    omega

/-- Window 6 reads a bias reshaped to a column. -/
theorem entry6 (c : Dev nD) : V m c main_v11 = shapeCast S128x1 (m ((c : Thread nD τ).loc main_arg6)) shapeCasts_S128_S128x1 := by
  show StableHlo.after _ _ _ = _
  simp only [List.flatten_cons, List.flatten_nil, List.append_nil, List.cons_append, List.nil_append]
  after_results
  rfl

/-- The bias in window 6, at a row. -/
theorem read6 (c : Dev nD) (t : Fin cfg0.N) (i : Fin 128) :
    (iblk m c 6 t : Vec Ideal S128x1 .f32) (ix2 i 0) = (m ((c : Thread nD τ).loc main_arg6) : Vec Ideal S128 .f32) (ix1 i) := by
  have e := block_index t
  refine Eq.trans (b := (V m c main_v11 : Vec Ideal S128x1 .f32) (ix2 i 0)) ?_ ?_
  · blk_ext! [iblk, e]
  · rw [entry6]
    pointwise

/-- Window 8 reads a bias reshaped to a column. -/
theorem entry8 (c : Dev nD) : V m c main_v12 = shapeCast S128x1 (m ((c : Thread nD τ).loc main_arg8)) shapeCasts_S128_S128x1 := by
  show StableHlo.after _ _ _ = _
  simp only [List.flatten_cons, List.flatten_nil, List.append_nil, List.cons_append, List.nil_append]
  after_results
  rfl

/-- The bias in window 8, at a row. -/
theorem read8 (c : Dev nD) (t : Fin cfg0.N) (i : Fin 128) :
    (iblk m c 8 t : Vec Ideal S128x1 .f32) (ix2 i 0) = (m ((c : Thread nD τ).loc main_arg8) : Vec Ideal S128 .f32) (ix1 i) := by
  have e := block_index t
  refine Eq.trans (b := (V m c main_v12 : Vec Ideal S128x1 .f32) (ix2 i 0)) ?_ ?_
  · blk_ext! [iblk, e]
  · rw [entry8]
    pointwise

/-- Window 13 reads a bias reshaped to a column. -/
theorem entry13 (c : Dev nD) : V m c main_v13 = shapeCast S128x1 (m ((c : Thread nD τ).loc main_arg13)) shapeCasts_S128_S128x1 := by
  show StableHlo.after _ _ _ = _
  simp only [List.flatten_cons, List.flatten_nil, List.append_nil, List.cons_append, List.nil_append]
  after_results
  rfl

/-- The bias in window 13, at a row. -/
theorem read13 (c : Dev nD) (t : Fin cfg0.N) (i : Fin 128) :
    (iblk m c 13 t : Vec Ideal S128x1 .f32) (ix2 i 0) = (m ((c : Thread nD τ).loc main_arg13) : Vec Ideal S128 .f32) (ix1 i) := by
  have e := block_index t
  refine Eq.trans (b := (V m c main_v13 : Vec Ideal S128x1 .f32) (ix2 i 0)) ?_ ?_
  · blk_ext! [iblk, e]
  · rw [entry13]
    pointwise

/-- Window 15 reads a bias reshaped to a column. -/
theorem entry15 (c : Dev nD) : V m c main_v14 = shapeCast S128x1 (m ((c : Thread nD τ).loc main_arg15)) shapeCasts_S128_S128x1 := by
  show StableHlo.after _ _ _ = _
  simp only [List.flatten_cons, List.flatten_nil, List.append_nil, List.cons_append, List.nil_append]
  after_results
  rfl

/-- The bias in window 15, at a row. -/
theorem read15 (c : Dev nD) (t : Fin cfg0.N) (i : Fin 128) :
    (iblk m c 15 t : Vec Ideal S128x1 .f32) (ix2 i 0) = (m ((c : Thread nD τ).loc main_arg15) : Vec Ideal S128 .f32) (ix1 i) := by
  have e := block_index t
  refine Eq.trans (b := (V m c main_v14 : Vec Ideal S128x1 .f32) (ix2 i 0)) ?_ ?_
  · blk_ext! [iblk, e]
  · rw [entry15]
    pointwise

/-- Window 17 reads a bias reshaped to a column. -/
theorem entry17 (c : Dev nD) : V m c main_v15 = shapeCast S128x1 (m ((c : Thread nD τ).loc main_arg17)) shapeCasts_S128_S128x1 := by
  show StableHlo.after _ _ _ = _
  simp only [List.flatten_cons, List.flatten_nil, List.append_nil, List.cons_append, List.nil_append]
  after_results
  rfl

/-- The bias in window 17, at a row. -/
theorem read17 (c : Dev nD) (t : Fin cfg0.N) (i : Fin 128) :
    (iblk m c 17 t : Vec Ideal S128x1 .f32) (ix2 i 0) = (m ((c : Thread nD τ).loc main_arg17) : Vec Ideal S128 .f32) (ix1 i) := by
  have e := block_index t
  refine Eq.trans (b := (V m c main_v15 : Vec Ideal S128x1 .f32) (ix2 i 0)) ?_ ?_
  · blk_ext! [iblk, e]
  · rw [entry17]
    pointwise

/-- Window 19 reads a bias reshaped to a column. -/
theorem entry19 (c : Dev nD) : V m c main_v16 = shapeCast S128x1 (m ((c : Thread nD τ).loc main_arg19)) shapeCasts_S128_S128x1 := by
  show StableHlo.after _ _ _ = _
  simp only [List.flatten_cons, List.flatten_nil, List.append_nil, List.cons_append, List.nil_append]
  after_results
  rfl

/-- The bias in window 19, at a row. -/
theorem read19 (c : Dev nD) (t : Fin cfg0.N) (i : Fin 128) :
    (iblk m c 19 t : Vec Ideal S128x1 .f32) (ix2 i 0) = (m ((c : Thread nD τ).loc main_arg19) : Vec Ideal S128 .f32) (ix1 i) := by
  have e := block_index t
  refine Eq.trans (b := (V m c main_v16 : Vec Ideal S128x1 .f32) (ix2 i 0)) ?_ ?_
  · blk_ext! [iblk, e]
  · rw [entry19]
    pointwise

/-- Window 21 reads a bias reshaped to a column. -/
theorem entry21 (c : Dev nD) : V m c main_v17 = shapeCast S3x1 (m ((c : Thread nD τ).loc main_arg21)) shapeCasts_S3_S3x1 := by
  show StableHlo.after _ _ _ = _
  simp only [List.flatten_cons, List.flatten_nil, List.append_nil, List.cons_append, List.nil_append]
  after_results
  rfl

/-- The bias in window 21, at a row. -/
theorem read21 (c : Dev nD) (t : Fin cfg0.N) (i : Fin 3) :
    (iblk m c 21 t : Vec Ideal S3x1 .f32) (ix2 i 0) = (m ((c : Thread nD τ).loc main_arg21) : Vec Ideal S3 .f32) (ix1 i) := by
  have e := block_index t
  refine Eq.trans (b := (V m c main_v17 : Vec Ideal S3x1 .f32) (ix2 i 0)) ?_ ?_
  · blk_ext! [iblk, e]
  · rw [entry21]
    pointwise

/-- Window 5 holds a whole weight. -/
theorem read5 (c : Dev nD) (t : Fin cfg0.N) : iblk m c 5 t = m ((c : Thread nD τ).loc main_arg5) := by
  have e := block_index t
  blk_ext! [iblk, V, e]

/-- Window 7 holds a whole weight. -/
theorem read7 (c : Dev nD) (t : Fin cfg0.N) : iblk m c 7 t = m ((c : Thread nD τ).loc main_arg7) := by
  have e := block_index t
  blk_ext! [iblk, V, e]

/-- Window 9 holds a whole weight. -/
theorem read9 (c : Dev nD) (t : Fin cfg0.N) : iblk m c 9 t = m ((c : Thread nD τ).loc main_arg9) := by
  have e := block_index t
  blk_ext! [iblk, V, e]

/-- Window 10 holds a whole weight. -/
theorem read10 (c : Dev nD) (t : Fin cfg0.N) : iblk m c 10 t = m ((c : Thread nD τ).loc main_arg10) := by
  have e := block_index t
  blk_ext! [iblk, V, e]

/-- Window 11 holds a whole weight. -/
theorem read11 (c : Dev nD) (t : Fin cfg0.N) : iblk m c 11 t = m ((c : Thread nD τ).loc main_arg11) := by
  have e := block_index t
  blk_ext! [iblk, V, e]

/-- Window 12 holds a whole weight. -/
theorem read12 (c : Dev nD) (t : Fin cfg0.N) : iblk m c 12 t = m ((c : Thread nD τ).loc main_arg12) := by
  have e := block_index t
  blk_ext! [iblk, V, e]

/-- Window 14 holds a whole weight. -/
theorem read14 (c : Dev nD) (t : Fin cfg0.N) : iblk m c 14 t = m ((c : Thread nD τ).loc main_arg14) := by
  have e := block_index t
  blk_ext! [iblk, V, e]

/-- Window 16 holds a whole weight. -/
theorem read16 (c : Dev nD) (t : Fin cfg0.N) : iblk m c 16 t = m ((c : Thread nD τ).loc main_arg16) := by
  have e := block_index t
  blk_ext! [iblk, V, e]

/-- Window 18 holds a whole weight. -/
theorem read18 (c : Dev nD) (t : Fin cfg0.N) : iblk m c 18 t = m ((c : Thread nD τ).loc main_arg18) := by
  have e := block_index t
  blk_ext! [iblk, V, e]

/-- Window 20 holds a whole weight. -/
theorem read20 (c : Dev nD) (t : Fin cfg0.N) : iblk m c 20 t = m ((c : Thread nD τ).loc main_arg20) := by
  have e := block_index t
  blk_ext! [iblk, V, e]

/-- Window 2 holds the nodes of one batch entry. -/
theorem read2 (c : Dev nD) (t : Fin cfg0.N) (b : Fin 2) (hb : t.val / 49 = b.val) (i : Fin 3) (k : Fin 2048) :
    (iblk m c 2 t : Vec Ideal S1x3x2048 .f32) (ix3 0 i k) = (m ((c : Thread nD τ).loc main_arg2) : Vec Ideal S2x3x2048 .f32) (ix3 b i k) := by
  have e := block_index t
  blk_ext! [iblk, V, e]

/-- Window 3 holds the nodes of one batch entry. -/
theorem read3 (c : Dev nD) (t : Fin cfg0.N) (b : Fin 2) (hb : t.val / 49 = b.val) (i : Fin 3) (k : Fin 2048) :
    (iblk m c 3 t : Vec Ideal S1x3x2048 .f32) (ix3 0 i k) = (m ((c : Thread nD τ).loc main_arg3) : Vec Ideal S2x3x2048 .f32) (ix3 b i k) := by
  have e := block_index t
  blk_ext! [iblk, V, e]

/-- Window 0 reads the padded points. -/
theorem entry0 (c : Dev nD) : V m c main_v0 = pad (α := Ideal .f32) S2x3x100352 ![0, 0, 0] ![0, 0, 352] ![0, 0, 0] (m ((c : Thread nD τ).loc main_arg0) : Vec Ideal S2x3x100000 .f32)
    (sitofp (F := Ideal) .f32 (constantI S_ 32 0#32)) pads_S2x3x100000_S2x3x100352_000_000_03520 h_S_ := by
  show StableHlo.after _ _ _ = _
  simp only [List.flatten_cons, List.flatten_nil, List.append_nil, List.cons_append, List.nil_append]
  after_results
  rfl

/-- Window 0 holds 2048 of the points of one batch entry. -/
theorem read0 (c : Dev nD) (t : Fin cfg0.N) (b : Fin 2) (hb : t.val / 49 = b.val) (i : Fin 3) (k : Fin 2048) (h : 2048 * (t.val % 49) + k.val < 100000) :
    (iblk m c 0 t : Vec Ideal S1x3x2048 .f32) (ix3 0 i k) =
      (m ((c : Thread nD τ).loc main_arg0) : Vec Ideal S2x3x100000 .f32) (ix3 b i ⟨2048 * (t.val % 49) + k.val, h⟩) := by
  have e := block_index t
  refine Eq.trans (b := (V m c main_v0 : Vec Ideal S2x3x100352 .f32) (ix3 b i ⟨2048 * (t.val % 49) + k.val, by omega⟩)) ?_ ?_
  · blk_ext! [iblk, e]
  · rw [entry0]
    exact points_padded _ _ b i _ h

/-- Window 1 reads the padded points. -/
theorem entry1 (c : Dev nD) : V m c main_v1 = pad (α := Ideal .f32) S2x3x100352 ![0, 0, 0] ![0, 0, 352] ![0, 0, 0] (m ((c : Thread nD τ).loc main_arg1) : Vec Ideal S2x3x100000 .f32)
    (sitofp (F := Ideal) .f32 (constantI S_ 32 0#32)) pads_S2x3x100000_S2x3x100352_000_000_03520 h_S_ := by
  show StableHlo.after _ _ _ = _
  simp only [List.flatten_cons, List.flatten_nil, List.append_nil, List.cons_append, List.nil_append]
  after_results
  rfl

/-- Window 1 holds 2048 of the points of one batch entry. -/
theorem read1 (c : Dev nD) (t : Fin cfg0.N) (b : Fin 2) (hb : t.val / 49 = b.val) (i : Fin 3) (k : Fin 2048) (h : 2048 * (t.val % 49) + k.val < 100000) :
    (iblk m c 1 t : Vec Ideal S1x3x2048 .f32) (ix3 0 i k) =
      (m ((c : Thread nD τ).loc main_arg1) : Vec Ideal S2x3x100000 .f32) (ix3 b i ⟨2048 * (t.val % 49) + k.val, h⟩) := by
  have e := block_index t
  refine Eq.trans (b := (V m c main_v1 : Vec Ideal S2x3x100352 .f32) (ix3 b i ⟨2048 * (t.val % 49) + k.val, by omega⟩)) ?_ ?_
  · blk_ext! [iblk, e]
  · rw [entry1]
    exact points_padded _ _ b i _ h

/-- Window 4 reads the padded indices. -/
theorem entry4 (c : Dev nD) : V m c main_v3 = shapeCast (α := BitVec 32) S2x1x100352 (pad (α := BitVec 32) S2x100352 ![0, 0] ![0, 352] ![0, 0]
    (m ((c : Thread nD τ).loc main_arg4) : Vec Ideal S2x100000 .i32) (constantI S_ 32 2048#32) pads_S2x100000_S2x100352_000_03520 h_S_) shapeCasts_S2x100352_S2x1x100352 := by
  show StableHlo.after _ _ _ = _
  simp only [List.flatten_cons, List.flatten_nil, List.append_nil, List.cons_append, List.nil_append]
  after_results
  rfl

/-- Window 4 holds the indices of the same points; in the padding the index names no node. -/
theorem read4 (c : Dev nD) (t : Fin cfg0.N) (b : Fin 2) (hb : t.val / 49 = b.val) (k : Fin 2048) :
    (iblk m c 4 t : Vec Ideal S1x1x2048 .i32) (ix3 0 0 k) =
      if h : 2048 * (t.val % 49) + k.val < 100000 then
        (m ((c : Thread nD τ).loc main_arg4) : Vec Ideal S2x100000 .i32) (ix2 b ⟨2048 * (t.val % 49) + k.val, h⟩) else 2048#32 := by
  have e := block_index t
  refine Eq.trans (b := (V m c main_v3 : Vec Ideal S2x1x100352 .i32) (ix3 b 0 ⟨2048 * (t.val % 49) + k.val, by omega⟩)) ?_ ?_
  · blk_ext! [iblk, e]
  · rw [entry4]
    generalize hX : pad (α := BitVec 32) S2x100352 ![0, 0] ![0, 352] ![0, 0] (m ((c : Thread nD τ).loc main_arg4) : Vec Ideal S2x100000 .i32)
      (constantI S_ 32 2048#32) pads_S2x100000_S2x100352_000_03520 h_S_ = X
    refine Eq.trans (b := X (ix2 b ⟨2048 * (t.val % 49) + k.val, by omega⟩)) (by pointwise) ?_
    subst hX
    exact indices_padded _ _ b _

end Cert.Layer
-- ==== Proof.KernelArray.lean ====
module

public import proofs.«01_k».proof.Proof.KernelRead

/-!
# The kernel's output, at an index

Over the 49 points of a batch entry the kernel keeps two running sums for every node and channel. They are the sums, over the
points read so far, of what each point adds; after the last one they are sums over all points.
-/

@[expose] public section

set_option maxRecDepth 16384

noncomputable section

namespace Cert.Layer

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The kernel's weights. -/
def theWeights : Weights :=
  arrayWeights (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- The weights in the windows are the kernel's weights. -/
theorem weights_read (t : Fin cfg0.N) :
    blockWeights (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) = theWeights m c := by
  unfold blockWeights theWeights arrayWeights
  rw [read5, read7, read9, read10, read11, read12, read14, read16, read18, read20]
  congr 1
  · exact funext fun i => read6 m c t i
  · exact funext fun i => read8 m c t i
  · exact funext fun i => read13 m c t i
  · exact funext fun i => read15 m c t i
  · exact funext fun i => read17 m c t i
  · exact funext fun i => read19 m c t i
  · exact funext fun i => read21 m c t i

/-- A point's index, 2048 past the last point. -/
def indexOf (b : Fin 2) (p : ℕ) : BitVec 32 :=
  if h : p < 100000 then (m ((c : Thread nD τ).loc main_arg4) : Vec Ideal S2x100000 .i32) (ix2 b ⟨p, h⟩) else 2048#32

/-- A point's coordinates, zero past the last point. -/
def pointOf (b : Fin 2) (p : ℕ) (j : Fin 3) : EReal :=
  if h : p < 100000 then (m ((c : Thread nD τ).loc main_arg0) : Vec Ideal S2x3x100000 .f32) (ix3 b j ⟨p, h⟩) else 0

/-- A point's features, zero past the last point. -/
def featureOf (b : Fin 2) (p : ℕ) (j : Fin 3) : EReal :=
  if h : p < 100000 then (m ((c : Thread nD τ).loc main_arg1) : Vec Ideal S2x3x100000 .f32) (ix3 b j ⟨p, h⟩) else 0

/-- A node's coordinates. -/
def nodeOf (b : Fin 2) (n : Fin 2048) (j : Fin 3) : EReal :=
  (m ((c : Thread nD τ).loc main_arg2) : Vec Ideal S2x3x2048 .f32) (ix3 b j n)

/-- A node's features. -/
def nodeFeatureOf (b : Fin 2) (n : Fin 2048) (j : Fin 3) : EReal :=
  (m ((c : Thread nD τ).loc main_arg3) : Vec Ideal S2x3x2048 .f32) (ix3 b j n)

/-- A node's query. -/
def queryOf (b : Fin 2) (n : Fin 2048) : Fin 128 → EReal := (theWeights m c).query (nodeFeatureOf m c b n)

/-- What point `p` adds to the first sum of node `n`. -/
def expTerm (b : Fin 2) (n : Fin 2048) (k : Fin 128) (p : ℕ) : EReal :=
  (theWeights m c).expAt (indexOf m c b p) n.val (queryOf m c b n) (pointOf m c b p) (featureOf m c b p) (nodeOf m c b n) k

/-- What point `p` adds to the second sum of node `n`. -/
def valTerm (b : Fin 2) (n : Fin 2048) (k : Fin 128) (p : ℕ) : EReal :=
  (theWeights m c).valAt (indexOf m c b p) n.val (queryOf m c b n) (pointOf m c b p) (featureOf m c b p) (nodeOf m c b n) k

/-- The padding's index names no node. -/
theorem padding_ne (n : Fin 2048) : BitVec.ofNat 32 n.val ≠ 2048#32 := by
  intro h
  have := congrArg BitVec.toNat h
  simp at this
  omega

/-- A block's contribution, in the windows' contents. -/
theorem exp_read (t : Fin cfg0.N) (b : Fin 2) (hb : t.val / 49 = b.val) (n : Fin 2048) (k : Fin 128) (r : Fin 2048) :
    (theWeights m c).expAt ((iblk m c 4 t : Vec Ideal S1x1x2048 .i32) (ix3 0 0 r)) n.val (queryOf m c b n)
        (fun j => (iblk m c 0 t : Vec Ideal S1x3x2048 .f32) (ix3 0 j r)) (fun j => (iblk m c 1 t : Vec Ideal S1x3x2048 .f32) (ix3 0 j r))
        (fun j => (iblk m c 2 t : Vec Ideal S1x3x2048 .f32) (ix3 0 j n)) k
      = expTerm m c b n k (2048 * (t.val % 49) + r.val) := by
  unfold expTerm
  have hi : (iblk m c 4 t : Vec Ideal S1x1x2048 .i32) (ix3 0 0 r) = indexOf m c b (2048 * (t.val % 49) + r.val) := read4 m c t b hb r
  have hn : (fun j => (iblk m c 2 t : Vec Ideal S1x3x2048 .f32) (ix3 0 j n)) = nodeOf m c b n := funext fun j => read2 m c t b hb j n
  rw [hi, hn]
  by_cases h : 2048 * (t.val % 49) + r.val < 100000
  · have hx : (fun j => (iblk m c 0 t : Vec Ideal S1x3x2048 .f32) (ix3 0 j r)) = pointOf m c b (2048 * (t.val % 49) + r.val) :=
      funext fun j => (read0 m c t b hb j r h).trans (by unfold pointOf; rw [dif_pos h])
    have hf : (fun j => (iblk m c 1 t : Vec Ideal S1x3x2048 .f32) (ix3 0 j r)) = featureOf m c b (2048 * (t.val % 49) + r.val) :=
      funext fun j => (read1 m c t b hb j r h).trans (by unfold featureOf; rw [dif_pos h])
    rw [hx, hf]
  · have e : indexOf m c b (2048 * (t.val % 49) + r.val) = 2048#32 := by unfold indexOf; rw [dif_neg h]
    rw [e]
    unfold Weights.expAt
    rw [if_neg (padding_ne n), if_neg (padding_ne n)]

/-- A block's contribution, in the windows' contents. -/
theorem val_read (t : Fin cfg0.N) (b : Fin 2) (hb : t.val / 49 = b.val) (n : Fin 2048) (k : Fin 128) (r : Fin 2048) :
    (theWeights m c).valAt ((iblk m c 4 t : Vec Ideal S1x1x2048 .i32) (ix3 0 0 r)) n.val (queryOf m c b n)
        (fun j => (iblk m c 0 t : Vec Ideal S1x3x2048 .f32) (ix3 0 j r)) (fun j => (iblk m c 1 t : Vec Ideal S1x3x2048 .f32) (ix3 0 j r))
        (fun j => (iblk m c 2 t : Vec Ideal S1x3x2048 .f32) (ix3 0 j n)) k
      = valTerm m c b n k (2048 * (t.val % 49) + r.val) := by
  unfold valTerm
  have hi : (iblk m c 4 t : Vec Ideal S1x1x2048 .i32) (ix3 0 0 r) = indexOf m c b (2048 * (t.val % 49) + r.val) := read4 m c t b hb r
  have hn : (fun j => (iblk m c 2 t : Vec Ideal S1x3x2048 .f32) (ix3 0 j n)) = nodeOf m c b n := funext fun j => read2 m c t b hb j n
  rw [hi, hn]
  by_cases h : 2048 * (t.val % 49) + r.val < 100000
  · have hx : (fun j => (iblk m c 0 t : Vec Ideal S1x3x2048 .f32) (ix3 0 j r)) = pointOf m c b (2048 * (t.val % 49) + r.val) :=
      funext fun j => (read0 m c t b hb j r h).trans (by unfold pointOf; rw [dif_pos h])
    have hf : (fun j => (iblk m c 1 t : Vec Ideal S1x3x2048 .f32) (ix3 0 j r)) = featureOf m c b (2048 * (t.val % 49) + r.val) :=
      funext fun j => (read1 m c t b hb j r h).trans (by unfold featureOf; rw [dif_pos h])
    rw [hx, hf]
  · have e : indexOf m c b (2048 * (t.val % 49) + r.val) = 2048#32 := by unfold indexOf; rw [dif_neg h]
    rw [e]
    unfold Weights.valAt
    rw [if_neg (padding_ne n), if_neg (padding_ne n)]

/-- One point's step of the first sum. -/
theorem exp_step (t : Fin cfg0.N) (b : Fin 2) (hb : t.val / 49 = b.val) (q acc : Vec Ideal S128x2048 .f32)
    (hq : ∀ j n, q (ix2 j n) = queryOf m c b n j) (n : Fin 2048) (k : Fin 128) :
    k0_pay1 (F := Ideal) (k0_pay8 (iblk m c 4 t)) (k0_pay15 (k0_pay7 (iblk m c 0 t)) (k0_pay8 (iblk m c 4 t))
        (k0_pay10 (iblk m c 1 t) (iblk m c 5 t) (iblk m c 6 t) (iblk m c 10 t)) (k0_pay12 (iblk m c 4 t) q) (k0_pay13 (iblk m c 2 t))
        (iblk m c 12 t) (iblk m c 13 t) (iblk m c 14 t) (iblk m c 15 t) (iblk m c 16 t) (iblk m c 17 t) (iblk m c 18 t) (iblk m c 19 t)) acc (ix2 k n)
      = acc (ix2 k n) + ∑ r : Fin 2048, expTerm m c b n k (2048 * (t.val % 49) + r.val) := by
  refine (step_exp (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) q acc k n).trans ?_
  rw [weights_read, funext fun j => hq j n]
  exact congrArg _ (Finset.sum_congr rfl fun r _ => exp_read m c t b hb n k r)

/-- One point's step of the second sum. -/
theorem val_step (t : Fin cfg0.N) (b : Fin 2) (hb : t.val / 49 = b.val) (q acc : Vec Ideal S128x2048 .f32)
    (hq : ∀ j n, q (ix2 j n) = queryOf m c b n j) (n : Fin 2048) (k : Fin 128) :
    k0_pay2 (F := Ideal) (k0_pay8 (iblk m c 4 t)) (k0_pay15 (k0_pay7 (iblk m c 0 t)) (k0_pay8 (iblk m c 4 t))
        (k0_pay10 (iblk m c 1 t) (iblk m c 5 t) (iblk m c 6 t) (iblk m c 10 t)) (k0_pay12 (iblk m c 4 t) q) (k0_pay13 (iblk m c 2 t))
        (iblk m c 12 t) (iblk m c 13 t) (iblk m c 14 t) (iblk m c 15 t) (iblk m c 16 t) (iblk m c 17 t) (iblk m c 18 t) (iblk m c 19 t))
        (k0_pay16 (k0_pay7 (iblk m c 0 t)) (k0_pay8 (iblk m c 4 t)) (k0_pay11 (iblk m c 1 t) (iblk m c 5 t) (iblk m c 6 t) (iblk m c 11 t))
          (k0_pay13 (iblk m c 2 t)) (iblk m c 12 t) (iblk m c 13 t) (iblk m c 14 t) (iblk m c 15 t)) acc (ix2 k n)
      = acc (ix2 k n) + ∑ r : Fin 2048, valTerm m c b n k (2048 * (t.val % 49) + r.val) := by
  refine (step_val (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) q acc k n).trans ?_
  rw [weights_read, funext fun j => hq j n]
  exact congrArg _ (Finset.sum_congr rfl fun r _ => val_read m c t b hb n k r)

/-- The query the first point of a batch entry stores. -/
theorem query_read (t : Fin cfg0.N) (b : Fin 2) (hb : t.val / 49 = b.val) (n : Fin 2048) (k : Fin 128) :
    k0_pay4 (F := Ideal) (iblk m c 7 t) (iblk m c 3 t) (iblk m c 8 t) (iblk m c 9 t) (ix2 k n) = queryOf m c b n k := by
  refine (query_at (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) k n (iblk m c 3 t)).trans ?_
  rw [weights_read]
  have hn : (fun j => (iblk m c 3 t : Vec Ideal S1x3x2048 .f32) (ix3 0 j n)) = nodeFeatureOf m c b n := funext fun j => read3 m c t b hb j n
  rw [hn]
  rfl

/-- What the kernel keeps after the first `l` points of a batch entry: the queries and the two sums. -/
def Kept (b : Fin 2) (l : ℕ) (s : Vec Ideal S1x3x2048 .f32 × Vec Ideal S128x2048 .f32 × Vec Ideal S128x2048 .f32 × Vec Ideal S128x2048 .f32) : Prop :=
  (∀ j n, s.2.1 (ix2 j n) = queryOf m c b n j)
    ∧ (∀ k n, s.2.2.1 (ix2 k n) = ∑ p ∈ Finset.range l, expTerm m c b n k p)
    ∧ ∀ k n, s.2.2.2 (ix2 k n) = ∑ p ∈ Finset.range l, valTerm m c b n k p

/-- A sum over the first points, one block longer. -/
theorem sum_block (f : ℕ → EReal) (l : ℕ) :
    ∑ p ∈ Finset.range (2048 * (l + 1)), f p = ∑ p ∈ Finset.range (2048 * l), f p + ∑ r : Fin 2048, f (2048 * l + r.val) := by
  rw [Nat.mul_succ, Finset.sum_range_add, Finset.sum_range (fun x => f (2048 * l + x))]

set_option maxHeartbeats 1000000 in
/-- The first point of a batch entry. -/
theorem kept_first (t : Fin cfg0.N) (b : Fin 2) (hb : t.val / 49 = b.val) (h0 : t.val % 49 = 0) (acc : Vec Ideal S1x3x2048 .f32 × Vec Ideal S128x2048 .f32 × Vec Ideal S128x2048 .f32 × Vec Ideal S128x2048 .f32) :
    Kept m c b 2048 (stAt0 m c t.val t.isLt acc) := by
  have h1 : ¬ t.val % 49 = 48 := by omega
  rw [stAt0_A m c t acc h0 h1]
  have hs : ∀ f : ℕ → EReal, ∑ p ∈ Finset.range 2048, f p = 0 + ∑ r : Fin 2048, f (2048 * (t.val % 49) + r.val) := fun f => by
    rw [h0]
    exact (sum_block f 0).trans (by simp)
  refine ⟨fun j n => ?_, fun k n => ?_, fun k n => ?_⟩
  · dsimp only
    rw [query_first]
    exact query_read m c t b hb n j
  · rw [hs, ← pay5_apply k n]
    dsimp only
    rw [expsum_first]
    exact (exp_step m c t b hb _ _ (fun j n => query_read m c t b hb n j) n k)
  · rw [hs, ← pay6_apply k n]
    dsimp only
    rw [valsum_first]
    exact (val_step m c t b hb _ _ (fun j n => query_read m c t b hb n j) n k)

set_option maxHeartbeats 1000000 in
/-- Every later point. -/
theorem kept_next (t : Fin cfg0.N) (b : Fin 2) (hb : t.val / 49 = b.val) (h0 : ¬ t.val % 49 = 0) (acc : Vec Ideal S1x3x2048 .f32 × Vec Ideal S128x2048 .f32 × Vec Ideal S128x2048 .f32 × Vec Ideal S128x2048 .f32)
    (h : Kept m c b (2048 * (t.val % 49)) acc) : Kept m c b (2048 * (t.val % 49 + 1)) (stAt0 m c t.val t.isLt acc) := by
  obtain ⟨hq, he, hv⟩ := h
  by_cases h1 : t.val % 49 = 48
  · rw [stAt0_C m c t acc h0 h1]
    refine ⟨hq, fun k n => ?_, fun k n => ?_⟩
    · rw [sum_block, ← he]
      dsimp only
      rw [expsum_last]
      exact (exp_step m c t b hb _ _ hq n k)
    · rw [sum_block, ← hv]
      dsimp only
      rw [valsum_last]
      exact (val_step m c t b hb _ _ hq n k)
  · rw [stAt0_B m c t acc h0 h1]
    refine ⟨hq, fun k n => ?_, fun k n => ?_⟩
    · rw [sum_block, ← he]
      dsimp only
      rw [expsum_mid]
      exact (exp_step m c t b hb _ _ hq n k)
    · rw [sum_block, ← hv]
      dsimp only
      rw [valsum_mid]
      exact (val_step m c t b hb _ _ hq n k)

set_option maxHeartbeats 1000000 in
/-- The last point's output. -/
theorem out_step (t : Fin cfg0.N) (b : Fin 2) (hb : t.val / 49 = b.val) (h1 : t.val % 49 = 48) (acc : Vec Ideal S1x3x2048 .f32 × Vec Ideal S128x2048 .f32 × Vec Ideal S128x2048 .f32 × Vec Ideal S128x2048 .f32)
    (h : Kept m c b (2048 * 48) acc) (i : Fin 3) (n : Fin 2048) :
    (stAt0 m c t.val t.isLt acc).1 (ix3 0 i n)
      = lin (theWeights m c).W2 (theWeights m c).b2 (fun k => Ideal.div (∑ p ∈ Finset.range (2048 * 49), valTerm m c b n k p)
          (if 0 < ∑ p ∈ Finset.range (2048 * 49), expTerm m c b n k p then ∑ p ∈ Finset.range (2048 * 49), expTerm m c b n k p else 1)) i
        + nodeFeatureOf m c b n i := by
  obtain ⟨hq, he, hv⟩ := h
  have h0 : ¬ t.val % 49 = 0 := by omega
  rw [stAt0_C m c t acc h0 h1]
  dsimp only
  rw [out_last, pay3_apply]
  have hE : ∀ k, ∑ p ∈ Finset.range (2048 * 49), expTerm m c b n k p = _ := fun k =>
    (sum_block _ 48).trans ((congrArg₂ (· + ·) (he k n).symm (by rw [h1])).trans (exp_step m c t b hb acc.2.1 acc.2.2.1 hq n k).symm)
  have hV : ∀ k, ∑ p ∈ Finset.range (2048 * 49), valTerm m c b n k p = _ := fun k =>
    (sum_block _ 48).trans ((congrArg₂ (· + ·) (hv k n).symm (by rw [h1])).trans (val_step m c t b hb acc.2.1 acc.2.2.2 hq n k).symm)
  simp only [hE, hV]
  have hn : (iblk m c 3 t : Vec Ideal S1x3x2048 .f32) (ix3 0 i n) = nodeFeatureOf m c b n i := read3 m c t b hb i n
  rw [← weights_read m c t, hn]
  rfl

/-- What is kept after point `j` of batch entry `b`. -/
theorem kept (b : Fin 2) : ∀ (j : ℕ) (_ : j < 49) (h : 49 * b.val + j < cfg0.N), Kept m c b (2048 * (j + 1)) (outsAt0 m c (49 * b.val + j) h)
  | 0, _, h => by
    have key : ∀ (n : ℕ) (hn : n < cfg0.N) (_ : n / 49 = b.val) (_ : n % 49 = 0), Kept m c b 2048 (outsAt0 m c n hn) := fun n hn e1 e2 => by
      cases n with
      | zero => rw [outsAt0_zero]; exact kept_first m c ⟨0, hn⟩ b e1 e2 _
      | succ n => rw [outsAt0_succ]; exact kept_first m c ⟨n + 1, hn⟩ b e1 e2 _
    exact key _ h (by omega) (by omega)
  | j + 1, hj, h => by
    have ih := kept b j (by omega) (by omega)
    have e : (49 * b.val + j + 1) % 49 = j + 1 := by omega
    have := kept_next m c ⟨49 * b.val + j + 1, h⟩ b (by show (49 * b.val + j + 1) / 49 = b.val; omega) (by show ¬ (49 * b.val + j + 1) % 49 = 0; omega)
      (outsAt0 m c (49 * b.val + j) (by omega)) (by show Kept m c b (2048 * ((49 * b.val + j + 1) % 49)) _; rw [e]; exact ih)
    show Kept m c b (2048 * (j + 1 + 1)) (outsAt0 m c (49 * b.val + j + 1) h)
    rw [outsAt0_succ]
    rw [show ((⟨49 * b.val + j + 1, h⟩ : Fin cfg0.N).val % 49) = j + 1 from e] at this
    exact this

/-- The kernel's output array, at an index. -/
theorem kernel_array (b : Fin 2) (i : Fin 3) (n : Fin 2048) :
    (G22 m c : Vec Ideal S2x3x2048 .f32) (ix3 b i n)
      = lin (theWeights m c).W2 (theWeights m c).b2 (fun k => Ideal.div (∑ p ∈ Finset.range (2048 * 49), valTerm m c b n k p)
          (if 0 < ∑ p ∈ Finset.range (2048 * 49), expTerm m c b n k p then ∑ p ∈ Finset.range (2048 * 49), expTerm m c b n k p else 1)) i
        + nodeFeatureOf m c b n i := by
  have hN : cfg0.N = 98 := N_0
  have hp : pt22Of (ix3 b i n) = 49 * b.val + 47 + 1 := by
    show 49 * (1 * (b.val / 1 - 0) + 1 * (i.val / 3 - 0) + 1 * (n.val / 2048 - 0)) + 48 = _
    omega
  have hl : loc22Of (ix3 b i n) = ix3 0 i n := by
    funext a
    match a with
    | ⟨0, _⟩ => exact Fin.ext (Nat.mod_one b.val)
    | ⟨1, _⟩ => exact Fin.ext (Nat.mod_eq_of_lt i.isLt)
    | ⟨2, _⟩ => exact Fin.ext (Nat.mod_eq_of_lt n.isLt)
  have hlt : 49 * b.val + 47 + 1 < cfg0.N := by omega
  have key := out_step m c ⟨49 * b.val + 47 + 1, hlt⟩ b (by show (49 * b.val + 47 + 1) / 49 = b.val; omega) (by show (49 * b.val + 47 + 1) % 49 = 48; omega)
    (outsAt0 m c (49 * b.val + 47) (by omega)) (kept m c b 47 (by omega) (by omega)) i n
  rw [← key]
  show G22 m c (ix3 b i n) = _
  unfold G22
  rw [dif_pos (by rw [hp]; exact hlt), hl, fold0_congr m c _ _ (49 * b.val + 47 + 1) (by omega) hp, ← outsAt0_sweep m c _ hlt]
  exact congrArg (fun s => s.1 (ix3 0 i n)) (outsAt0_succ m c (49 * b.val + 47) hlt)

end Cert.Layer
-- ==== Proof.Equation.lean ====
module

public import proofs.«01_k».proof.Proof.KernelArray

/-!
# The reference's array, at an index

The reference subtracts each segment's greatest logit before it exponentiates, and divides by the segment's sum before it
sums the values. Where the logits are real this is the quotient of the two sums the kernel keeps.
-/

@[expose] public section

set_option maxRecDepth 16384

noncomputable section

namespace Cert.Layer

open Idealize.ShloMosaic Idealize.ShloMosaic.TcCoe
open Cert.ReferenceIdeal Cert.ReferenceIdeal.Gen

/-- The greatest value over a segment, as a supremum over its points. -/
theorem fold_segment {ι : Type} [Fintype ι] (P : ι → Prop) [DecidablePred P] (f : ι → EReal) :
    Finset.univ.fold max ⊥ (fun p => if P p then f p else ⊥) = (Finset.univ.filter P).sup f := by
  have h : Finset.univ.fold max ⊥ (fun p => if P p then f p else ⊥) = Finset.univ.sup (fun p => if P p then f p else ⊥) := rfl
  rw [h, Finset.sup_ite, Finset.sup_bot, sup_bot_eq]

section
variable (x0 : FVec Ideal S2x3x100000 .f32) (x1 : FVec Ideal S2x3x100000 .f32) (x2 : FVec Ideal S2x3x2048 .f32) (x3 : FVec Ideal S2x3x2048 .f32) (x4 : IVec S2x100000 32) (x5 : FVec Ideal S128x3 .f32) (x6 : FVec Ideal S128 .f32) (x7 : FVec Ideal S128x3 .f32) (x8 : FVec Ideal S128 .f32) (x9 : FVec Ideal S128x128 .f32) (x10 : FVec Ideal S128x128 .f32) (x11 : FVec Ideal S128x128 .f32) (x12 : FVec Ideal S128x3 .f32) (x13 : FVec Ideal S128 .f32) (x14 : FVec Ideal S128x128 .f32) (x15 : FVec Ideal S128 .f32) (x16 : FVec Ideal S128x128 .f32) (x17 : FVec Ideal S128 .f32) (x18 : FVec Ideal S128x128 .f32) (x19 : FVec Ideal S128 .f32) (x20 : FVec Ideal S3x128 .f32) (x21 : FVec Ideal S3 .f32)

/-- The logits of the whole layer. -/
def layerLogits : FVec Ideal S2x128x100000 .f32 :=
  logits x4 (queries x3 x7 x8 x9) (project x1 x5 x6) (positions x0 x2 x4 x12 x13 x14 x15) x10 x16 x17 x18 x19

/-- The whole layer, as the reference computes it. -/
def layer : FVec Ideal S2x3x2048 .f32 :=
  result x4 (weighted x4 (exps x4 (layerLogits x0 x1 x2 x3 x4 x5 x6 x7 x8 x9 x10 x12 x13 x14 x15 x16 x17 x18 x19))
    (project x1 x5 x6) (positions x0 x2 x4 x12 x13 x14 x15) x11) x3 x20 x21

/-- The logit of a point, about the node it belongs to. -/
def logitAt (b : Fin 2) (n : Fin 2048) (k : Fin 128) (p : Fin 100000) : EReal :=
  (arrayWeights x5 x6 x7 x8 x9 x10 x11 x12 x13 x14 x15 x16 x17 x18 x19 x20 x21).logit ((arrayWeights x5 x6 x7 x8 x9 x10 x11 x12 x13 x14 x15 x16 x17 x18 x19 x20 x21).query fun j => x3 (ix3 b j n))
    (fun j => x0 (ix3 b j p)) (fun j => x1 (ix3 b j p)) (fun j => x2 (ix3 b j n)) k

/-- The value of a point, about the node it belongs to. -/
def valueAt (b : Fin 2) (n : Fin 2048) (k : Fin 128) (p : Fin 100000) : EReal :=
  (arrayWeights x5 x6 x7 x8 x9 x10 x11 x12 x13 x14 x15 x16 x17 x18 x19 x20 x21).val
    (fun j => x0 (ix3 b j p)) (fun j => x1 (ix3 b j p)) (fun j => x2 (ix3 b j n)) k

/-- The points that belong to a node. -/
def segment (b : Fin 2) (n : Fin 2048) : Finset (Fin 100000) := Finset.univ.filter fun p => x4 (ix2 b p) = BitVec.ofNat 32 n.val

/-- The reference's logit of a point is its logit about its node. -/
theorem layerLogits_at (b : Fin 2) (n : Fin 2048) (k : Fin 128) (p : Fin 100000) (h : x4 (ix2 b p) = BitVec.ofNat 32 n.val) :
    layerLogits x0 x1 x2 x3 x4 x5 x6 x7 x8 x9 x10 x12 x13 x14 x15 x16 x17 x18 x19 (ix3 b k p) = logitAt x0 x1 x2 x3 x5 x6 x7 x8 x9 x10 x11 x12 x13 x14 x15 x16 x17 x18 x19 x20 x21 b n k p := by
  unfold layerLogits
  rw [logits_at _ _ _ _ _ _ _ _ _ b k p n h]
  simp only [queries_at, project_at, fun k => positions_at x0 x2 x4 x12 x13 x14 x15 b k p n h]
  rfl

/-- The reference's array, at an index, where the logits are real. -/
theorem layer_at (b : Fin 2) (i : Fin 3) (n : Fin 2048)
    (hr : ∀ k p, IsReal (logitAt x0 x1 x2 x3 x5 x6 x7 x8 x9 x10 x11 x12 x13 x14 x15 x16 x17 x18 x19 x20 x21 b n k p)) :
    layer x0 x1 x2 x3 x4 x5 x6 x7 x8 x9 x10 x11 x12 x13 x14 x15 x16 x17 x18 x19 x20 x21 (ix3 b i n)
      = lin (fun i j => x20 (ix2 i j)) (fun i => x21 (ix1 i)) (fun k =>
          Ideal.div (∑ p ∈ segment x4 b n, Ideal.exp (logitAt x0 x1 x2 x3 x5 x6 x7 x8 x9 x10 x11 x12 x13 x14 x15 x16 x17 x18 x19 x20 x21 b n k p) * valueAt x0 x1 x2 x5 x6 x7 x8 x9 x10 x11 x12 x13 x14 x15 x16 x17 x18 x19 x20 x21 b n k p)
            (if 0 < ∑ p ∈ segment x4 b n, Ideal.exp (logitAt x0 x1 x2 x3 x5 x6 x7 x8 x9 x10 x11 x12 x13 x14 x15 x16 x17 x18 x19 x20 x21 b n k p)
              then ∑ p ∈ segment x4 b n, Ideal.exp (logitAt x0 x1 x2 x3 x5 x6 x7 x8 x9 x10 x11 x12 x13 x14 x15 x16 x17 x18 x19 x20 x21 b n k p) else 1)) i
        + x3 (ix3 b i n) := by
  unfold layer
  rw [result_at]
  refine congrArg (· + x3 (ix3 b i n)) (congrArg (fun f => lin (fun i j => x20 (ix2 i j)) (fun i => x21 (ix1 i)) f i) (funext fun k => ?_))
  have hL : ∀ p, x4 (ix2 b p) = BitVec.ofNat 32 n.val → _ := fun p h => layerLogits_at x0 x1 x2 x3 x4 x5 x6 x7 x8 x9 x10 x11 x12 x13 x14 x15 x16 x17 x18 x19 x20 x21 b n k p h
  have hV : ∀ p, x4 (ix2 b p) = BitVec.ofNat 32 n.val → mul (fun i j => x11 (ix2 i j)) (fun k => project x1 x5 x6 (ix3 b k p)) k
      + positions x0 x2 x4 x12 x13 x14 x15 (ix3 b k p) = valueAt x0 x1 x2 x5 x6 x7 x8 x9 x10 x11 x12 x13 x14 x15 x16 x17 x18 x19 x20 x21 b n k p := fun p h => by
    simp only [project_at, positions_at x0 x2 x4 x12 x13 x14 x15 b k p n h]
    rfl
  choose a ha using fun p => hr k p
  generalize layerLogits x0 x1 x2 x3 x4 x5 x6 x7 x8 x9 x10 x12 x13 x14 x15 x16 x17 x18 x19 = L at hL ⊢
  generalize project x1 x5 x6 = X at hV ⊢
  generalize positions x0 x2 x4 x12 x13 x14 x15 = P at hV ⊢
  rw [← Finset.sum_filter]
  show ∑ p ∈ segment x4 b n, _ = _
  rcases (segment x4 b n).eq_empty_or_nonempty with hs | hs
  · rw [hs, Finset.sum_empty, Finset.sum_empty, Finset.sum_empty]
    simp [Ideal.div]
  · have hmem : ∀ p, p ∈ segment x4 b n ↔ x4 (ix2 b p) = BitVec.ofNat 32 n.val := fun p => by simp [segment]
    have hLa : ∀ p ∈ segment x4 b n, L (ix3 b k p) = (a p : EReal) := fun p hp => (hL p ((hmem p).1 hp)).trans (ha p)
    obtain ⟨M, hM⟩ := IsReal.fold_max (segment x4 b n) hs (f := fun p => L (ix3 b k p)) fun p hp => ⟨a p, hLa p hp⟩
    have hE : ∀ p ∈ segment x4 b n, exps x4 L (ix3 b k p) = Ideal.exp ((a p : EReal) - M) := fun p hp => by
      rw [exps_at x4 L b k p n ((hmem p).1 hp), fold_segment, hLa p hp]
      exact congrArg (fun y => Ideal.exp ((a p : EReal) - y)) hM
    have hS : ∑ q ∈ Finset.univ.filter (fun q => x4 (ix2 b q) = BitVec.ofNat 32 n.val), exps x4 L (ix3 b k q)
        = ∑ q ∈ segment x4 b n, Ideal.exp ((a q : EReal) - M) := Finset.sum_congr rfl hE
    have hW : ∀ p ∈ segment x4 b n, weighted x4 (exps x4 L) X P x11 (ix3 b k p)
        = Ideal.div (Ideal.exp ((a p : EReal) - M)) (∑ q ∈ segment x4 b n, Ideal.exp ((a q : EReal) - M)) * valueAt x0 x1 x2 x5 x6 x7 x8 x9 x10 x11 x12 x13 x14 x15 x16 x17 x18 x19 x20 x21 b n k p :=
      fun p hp => by
        rw [weighted_at x4 _ X P x11 b k p n ((hmem p).1 hp), hV p ((hmem p).1 hp), hE p hp, ← Finset.sum_filter, hS]
    rw [Finset.sum_congr rfl hW, softmax_sum hs]
    simp only [ha]
    have hpos : 0 < ∑ p ∈ segment x4 b n, Ideal.exp (a p : EReal) := by
      have he : ∀ x : ℝ, Ideal.exp (x : EReal) = ((Real.exp x : ℝ) : EReal) := fun _ => rfl
      simp only [he, coe_sum]
      exact EReal.coe_pos.2 (Finset.sum_pos (fun _ _ => Real.exp_pos _) hs)
    rw [if_pos hpos]

end

end Cert.Layer
-- ==== Proof.Finite.lean ====
module

public import proofs.«01_k».proof.Proof.Equation
public import proofs.«01_k».proof.Pre_finite
public import Idealize.ShloMosaic.Lib.ReduceAll

/-!
# The precondition: the arrays the logits depend on hold real numbers
-/

@[expose] public section

set_option maxRecDepth 16384

noncomputable section

namespace Cert.Layer

open Idealize.ShloMosaic
open Cert.Pre_finite

/-- An extended real whose absolute value is below infinity is a real number. -/
theorem isReal_of_abs_lt {x : EReal} (h : max x (-x) < ⊤) : IsReal x := by
  induction x using EReal.rec with
  | bot => simp at h
  | coe r => exact ⟨r, rfl⟩
  | top => simp at h

/-- An array whose absolute values are all below infinity holds real numbers. -/
theorem real_of_check {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1)
    (i : s.Idx) : IsReal (x i) := by
  have : Subsingleton S_.Idx := ⟨fun a b => funext fun k => k.elim0⟩
  have h := Host.reduce_andi_all _ _ hr hu ix0 e i
  have hc : Ideal.ofBits .f32 0x7F800000#32 = ⊤ := by simp [Ideal.ofBits, Ideal.ieee]
  have h' : BitVec.ofBool (decide (max (x i) (-(x i)) < Ideal.ofBits .f32 0x7F800000#32)) = 1#1 := h
  rw [hc] at h'
  refine isReal_of_abs_lt ?_
  by_contra hn
  rw [decide_eq_false hn] at h'
  exact absurd h' (by decide)

/-- A conjunction of two checks that holds. -/
theorem both {a b : IVec S_ 1} (h : andi a b ix0 = 1#1) : a ix0 = 1#1 ∧ b ix0 = 1#1 := IntOp.andi_eq_one.1 h

/-- What the precondition says of the arrays. -/
theorem finite_real [Facts] (x0 : FVec Ideal S2x3x100000 .f32) (x1 : FVec Ideal S2x3x100000 .f32) (x2 : FVec Ideal S2x3x2048 .f32) (x3 : FVec Ideal S2x3x2048 .f32) (x4 : IVec S2x100000 32) (x5 : FVec Ideal S128x3 .f32) (x6 : FVec Ideal S128 .f32) (x7 : FVec Ideal S128x3 .f32) (x8 : FVec Ideal S128 .f32) (x9 : FVec Ideal S128x128 .f32) (x10 : FVec Ideal S128x128 .f32) (x11 : FVec Ideal S128x128 .f32) (x12 : FVec Ideal S128x3 .f32) (x13 : FVec Ideal S128 .f32) (x14 : FVec Ideal S128x128 .f32) (x15 : FVec Ideal S128 .f32) (x16 : FVec Ideal S128x128 .f32) (x17 : FVec Ideal S128 .f32) (x18 : FVec Ideal S128x128 .f32) (x19 : FVec Ideal S128 .f32) (x20 : FVec Ideal S3x128 .f32) (x21 : FVec Ideal S3 .f32)
    (h : Cert.Pre_finite.fn (F := Ideal) x0 x1 x2 x3 x4 x5 x6 x7 x8 x9 x10 x11 x12 x13 x14 x15 x16 x17 x18 x19 x20 x21 = fun _ => 1#1) :
    (∀ i, IsReal (x0 i)) ∧ (∀ i, IsReal (x1 i)) ∧ (∀ i, IsReal (x2 i)) ∧ (∀ i, IsReal (x3 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x18 i)) ∧ (∀ i, IsReal (x19 i)) := by
  have e := congrFun h ix0
  dsimp only [fn, fn_part1, fn_part2, fn_part3, fn_part4, fn_part5] at e
  obtain ⟨e, h19⟩ := both e
  obtain ⟨e, h18⟩ := both e
  obtain ⟨e, h17⟩ := both e
  obtain ⟨e, h16⟩ := both e
  obtain ⟨e, h15⟩ := both e
  obtain ⟨e, h14⟩ := both e
  obtain ⟨e, h13⟩ := both e
  obtain ⟨e, h12⟩ := both e
  obtain ⟨e, h10⟩ := both e
  obtain ⟨e, h9⟩ := both e
  obtain ⟨e, h8⟩ := both e
  obtain ⟨e, h7⟩ := both e
  obtain ⟨e, h6⟩ := both e
  obtain ⟨e, h5⟩ := both e
  obtain ⟨e, h3⟩ := both e
  obtain ⟨e, h2⟩ := both e
  obtain ⟨e, h1⟩ := both e
  obtain ⟨e, h0⟩ := both e
  exact ⟨real_of_check x0 _ _ _ h0, real_of_check x1 _ _ _ h1, real_of_check x2 _ _ _ h2, real_of_check x3 _ _ _ h3, real_of_check x5 _ _ _ h5, real_of_check x6 _ _ _ h6, real_of_check x7 _ _ _ h7, real_of_check x8 _ _ _ h8, real_of_check x9 _ _ _ h9, real_of_check x10 _ _ _ h10, real_of_check x12 _ _ _ h12, real_of_check x13 _ _ _ h13, real_of_check x14 _ _ _ h14, real_of_check x15 _ _ _ h15, real_of_check x16 _ _ _ h16, real_of_check x17 _ _ _ h17, real_of_check x18 _ _ _ h18, real_of_check x19 _ _ _ h19⟩

end Cert.Layer
-- ==== Proof.Algebra.lean ====
module

public import proofs.«01_k».proof.Proof.Finite

/-!
# The kernel's array is the reference's
-/

@[expose] public section

set_option maxRecDepth 16384

noncomputable section

namespace Cert.Layer

open Idealize.ShloMosaic Idealize.ShloMosaic.TcCoe Idealize.SL.Sem
open Cert.KernelIdeal Cert.KernelIdeal.Gen Cert.KernelIdeal.Value

/-- A sum over the padded points whose terms vanish in the padding. -/
theorem sum_points (f : ℕ → EReal) (h : ∀ p, 100000 ≤ p → f p = 0) :
    ∑ p ∈ Finset.range (2048 * 49), f p = ∑ p : Fin 100000, f p.val := by
  have e : 2048 * 49 = 100000 + 352 := rfl
  rw [e, Finset.sum_range_add, Finset.sum_eq_zero (s := Finset.range 352) (fun x _ => h _ (Nat.le_add_right _ _)), add_zero,
    Finset.sum_range]

variable (m : (ℓ : Loc nD τ sig) → Buf (Elt Ideal) ℓ) (c : Dev nD)

/-- Past the last point nothing is added. -/
theorem indexOf_padding (b : Fin 2) (p : ℕ) (h : 100000 ≤ p) : indexOf m c b p = 2048#32 := by
  unfold indexOf
  rw [dif_neg (by omega)]

theorem indexOf_point (b : Fin 2) (p : Fin 100000) :
    indexOf m c b p.val = (m ((c : Thread nD τ).loc main_arg4) : Vec Ideal S2x100000 .i32) (ix2 b p) := by
  unfold indexOf
  rw [dif_pos p.isLt]

theorem pointOf_point (b : Fin 2) (p : Fin 100000) :
    pointOf m c b p.val = fun j => (m ((c : Thread nD τ).loc main_arg0) : Vec Ideal S2x3x100000 .f32) (ix3 b j p) := by
  funext j
  unfold pointOf
  rw [dif_pos p.isLt]

theorem featureOf_point (b : Fin 2) (p : Fin 100000) :
    featureOf m c b p.val = fun j => (m ((c : Thread nD τ).loc main_arg1) : Vec Ideal S2x3x100000 .f32) (ix3 b j p) := by
  funext j
  unfold featureOf
  rw [dif_pos p.isLt]

/-- The first sum, over the points of the node. -/
theorem exp_sum (b : Fin 2) (n : Fin 2048) (k : Fin 128) :
    ∑ p ∈ Finset.range (2048 * 49), expTerm m c b n k p
      = ∑ p ∈ segment (m ((c : Thread nD τ).loc main_arg4)) b n, Ideal.exp (logitAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) b n k p) := by
  rw [sum_points _ fun p h => ?_]
  · unfold segment
    rw [Finset.sum_filter]
    refine Finset.sum_congr rfl fun p _ => ?_
    unfold expTerm Weights.expAt
    rw [indexOf_point, pointOf_point, featureOf_point]
    by_cases h : (m ((c : Thread nD τ).loc main_arg4) : Vec Ideal S2x100000 .i32) (ix2 b p) = BitVec.ofNat 32 n.val
    · rw [if_pos h.symm, if_pos h]; rfl
    · rw [if_neg (fun e => h e.symm), if_neg h]
  · unfold expTerm Weights.expAt
    rw [indexOf_padding m c b p h, if_neg (padding_ne n)]

/-- The second sum, over the points of the node. -/
theorem val_sum (b : Fin 2) (n : Fin 2048) (k : Fin 128) :
    ∑ p ∈ Finset.range (2048 * 49), valTerm m c b n k p
      = ∑ p ∈ segment (m ((c : Thread nD τ).loc main_arg4)) b n, Ideal.exp (logitAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) b n k p)
          * valueAt (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) b n k p := by
  rw [sum_points _ fun p h => ?_]
  · unfold segment
    rw [Finset.sum_filter]
    refine Finset.sum_congr rfl fun p _ => ?_
    unfold valTerm Weights.valAt
    rw [indexOf_point, pointOf_point, featureOf_point]
    by_cases h : (m ((c : Thread nD τ).loc main_arg4) : Vec Ideal S2x100000 .i32) (ix2 b p) = BitVec.ofNat 32 n.val
    · rw [if_pos h.symm, if_pos h]; rfl
    · rw [if_neg (fun e => h e.symm), if_neg h]
  · unfold valTerm Weights.valAt
    rw [indexOf_padding m c b p h, if_neg (padding_ne n)]

/-- Under the precondition the logits are real. -/
theorem logit_real [Cert.Pre_finite.Facts] (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) = fun _ => 1#1)
    (b : Fin 2) (n : Fin 2048) (k : Fin 128) (p : Fin 100000) : IsReal (logitAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) b n k p) := by
  obtain ⟨h0, h1, h2, h3, h5, h6, h7, h8, h9, h10, h12, h13, h14, h15, h16, h17, h18, h19⟩ := finite_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) h
  have hw : (theWeights m c).Real :=
    { W10 := fun i j => h5 _, b10 := fun i => h6 _, W11 := fun i j => h7 _, b11 := fun i => h8 _, Wq := fun i j => h9 _, Wk := fun i j => h10 _,
      Wd1 := fun i j => h12 _, bd1 := fun i => h13 _, Wd2 := fun i j => h14 _, bd2 := fun i => h15 _, Wg1 := fun i j => h16 _, bg1 := fun i => h17 _,
      Wg2 := fun i j => h18 _, bg2 := fun i => h19 _ }
  exact hw.logit (hw.query fun j => h3 _) (fun j => h0 _) (fun j => h1 _) (fun j => h2 _) k

/-- The kernel's array is the reference's layer of the arguments. -/
theorem kernel_layer [Cert.Pre_finite.Facts] (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) = fun _ => 1#1) :
    (G22 m c : Vec Ideal S2x3x2048 .f32) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have key : ∀ (b : Fin 2) (i : Fin 3) (n : Fin 2048), (G22 m c : Vec Ideal S2x3x2048 .f32) (ix3 b i n) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (ix3 b i n) := fun b i n => by
    have e := layer_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) b i n fun k p => logit_real m c h b n k p
    refine (kernel_array m c b i n).trans (Eq.trans ?_ e.symm)
    simp only [exp_sum m c b n, val_sum m c b n]
    rfl
  funext i
  rw [eq_ix3 i]
  exact key _ _ _

end Cert.Layer
-- ==== Proof.ReferenceLayer.lean ====
module

public import proofs.«01_k».proof.Proof.Algebra

/-!
# What the reference's run leaves
-/

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (ρ : Dev nD → PrngReg)

/-- The reference's result is the layer of its arguments, and the arguments stay. -/
theorem reference_layer : θ_run defs (onTc (τ := τ) (main (F := Ideal))) ⟨m, fun _ => 0, ρ⟩ fun r => ∀ c : Dev nD,
    r.2.mem ((c : Thread nD τ).loc main_v117) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) ∧
      r.2.mem ((c : Thread nD τ).loc main_arg9) = m ((c : Thread nD τ).loc main_arg9) ∧
      r.2.mem ((c : Thread nD τ).loc main_arg10) = m ((c : Thread nD τ).loc main_arg10) ∧
      r.2.mem ((c : Thread nD τ).loc main_arg11) = m ((c : Thread nD τ).loc main_arg11) ∧
      r.2.mem ((c : Thread nD τ).loc main_arg12) = m ((c : Thread nD τ).loc main_arg12) ∧
      r.2.mem ((c : Thread nD τ).loc main_arg13) = m ((c : Thread nD τ).loc main_arg13) ∧
      r.2.mem ((c : Thread nD τ).loc main_arg14) = m ((c : Thread nD τ).loc main_arg14) ∧
      r.2.mem ((c : Thread nD τ).loc main_arg15) = m ((c : Thread nD τ).loc main_arg15) ∧
      r.2.mem ((c : Thread nD τ).loc main_arg16) = m ((c : Thread nD τ).loc main_arg16) ∧
      r.2.mem ((c : Thread nD τ).loc main_arg17) = m ((c : Thread nD τ).loc main_arg17) ∧
      r.2.mem ((c : Thread nD τ).loc main_arg18) = m ((c : Thread nD τ).loc main_arg18) ∧
      r.2.mem ((c : Thread nD τ).loc main_arg19) = m ((c : Thread nD τ).loc main_arg19) ∧
      r.2.mem ((c : Thread nD τ).loc main_arg20) = m ((c : Thread nD τ).loc main_arg20) ∧
      r.2.mem ((c : Thread nD τ).loc main_arg21) = m ((c : Thread nD τ).loc main_arg21) := by
  refine (θ_run defs _ _).mono (fun _ h c => ⟨(h c).1.trans ?_, (h c).2⟩) (run (F := Ideal) m ρ)
  unfold res_main_v90 layer
  rfl

end Cert.Layer
-- ==== Proof.lean ====
/- The certificate's proof, assembled: the frames of the programs, the site of the named constant, and the equality of the
   kernel's result with the reference's. -/
module

public import proofs.«01_k».proof.Defs
public import proofs.«01_k».proof.Proof.BitsFrame
public import proofs.«01_k».proof.Proof.ReferenceLayer
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were and its semaphores at rest. -/
theorem reference_runs : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over real data the kernel and the reference leave the same result. -/
theorem same_result : @Cert.algebraic_KernelIdeal_ReferenceIdeal_pre_finite Cert.KernelIdeal.Gen.facts Cert.ReferenceIdeal.Gen.facts
    Cert.Pre_finite.Gen.facts := by
  intro m ρ m' ρ' hp hagree
  refine ⟨_, Cert.KernelIdeal.Value.run (F := Ideal) m ρ, ?_⟩
  refine (θ_run Cert.ReferenceIdeal.defs _ _).mono (fun _ h c => ⟨?_, (h c).2⟩) (Cert.Layer.reference_layer m' ρ')
  obtain ⟨a0, a1, a2, a3, a4, a5, a6, a7, a8, a9, a10, a11, a12, a13, a14, a15, a16, a17, a18, a19, a20, a21⟩ := hagree c
  refine (h c).1.trans (Eq.trans ?_ (Cert.Layer.kernel_layer m c (hp c)).symm)
  rw [a0, a1, a2, a3, a4, a5, a6, a7, a8, a9, a10, a11, a12, a13, a14, a15, a16, a17, a18, a19, a20, a21]

/-- Every claim, proved. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_runs,
  fun m ρ _ => reference_runs m ρ trivial,
  IdealRules.named_const.statement Cert.KernelIdeal.κ "inv_sqrt_d" .f32 0x3DB504F3#32 (((Real.sqrt 128)⁻¹ : ℝ) : EReal) rfl,
  same_result⟩

end Cert.Proof

end
